-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x56x128 : Shape := ⟨4, ![2, 8192, 56, 128]⟩
abbrev S56 : Shape := ⟨1, ![56]⟩
abbrev S2x8192x8x128 : Shape := ⟨4, ![2, 8192, 8, 128]⟩
abbrev S8 : Shape := ⟨1, ![8]⟩
abbrev S8x128 : Shape := ⟨2, ![8, 128]⟩
abbrev S_ : Shape := ⟨0, ![]⟩
abbrev S1 : Shape := ⟨1, ![1]⟩
abbrev S16384x56x128 : Shape := ⟨3, ![16384, 56, 128]⟩
abbrev S16384x8x128 : Shape := ⟨3, ![16384, 8, 128]⟩
abbrev S16384x7168 : Shape := ⟨2, ![16384, 7168]⟩
abbrev S256x56x128 : Shape := ⟨3, ![256, 56, 128]⟩
abbrev S256x8x128 : Shape := ⟨3, ![256, 8, 128]⟩
abbrev S256x7168 : Shape := ⟨2, ![256, 7168]⟩
abbrev S14x256x128 : Shape := ⟨3, ![14, 256, 128]⟩
abbrev S3x2x128x128 : Shape := ⟨4, ![3, 2, 128, 128]⟩
abbrev S2x448x256 : Shape := ⟨3, ![2, 448, 256]⟩
abbrev S2x448x128 : Shape := ⟨3, ![2, 448, 128]⟩
abbrev S2x128x128 : Shape := ⟨3, ![2, 128, 128]⟩
abbrev S1x2x128x128 : Shape := ⟨4, ![1, 2, 128, 128]⟩
abbrev S8x4x128 : Shape := ⟨3, ![8, 4, 128]⟩
abbrev S32x128 : Shape := ⟨2, ![32, 128]⟩
abbrev S2x4x4x128 : Shape := ⟨4, ![2, 4, 4, 128]⟩
abbrev S1x8x128 : Shape := ⟨3, ![1, 8, 128]⟩
abbrev S64x128 : Shape := ⟨2, ![64, 128]⟩
abbrev S1x128 : Shape := ⟨2, ![1, 128]⟩
abbrev S128x8x128 : Shape := ⟨3, ![128, 8, 128]⟩
abbrev S64x256 : Shape := ⟨2, ![64, 256]⟩
abbrev S128x256 : Shape := ⟨2, ![128, 256]⟩
abbrev S256x256 : Shape := ⟨2, ![256, 256]⟩
abbrev S448x256 : Shape := ⟨2, ![448, 256]⟩
abbrev S448x128 : Shape := ⟨2, ![448, 128]⟩
abbrev S1x64x128 : Shape := ⟨3, ![1, 64, 128]⟩
abbrev S1x64x256 : Shape := ⟨3, ![1, 64, 256]⟩
abbrev S1x1 : Shape := ⟨2, ![1, 1]⟩
abbrev S1x448x256 : Shape := ⟨3, ![1, 448, 256]⟩
abbrev S1x448x128 : Shape := ⟨3, ![1, 448, 128]⟩
abbrev S2x8192x7168 : Shape := ⟨3, ![2, 8192, 7168]⟩

abbrev nBuf : Space → Nat
  | .hbm => 13
  | .vmem => 15
  | .smem => 3
  | _ => 0

abbrev bufTy : (tb : Table) → Fin (tcTables nBuf tb) → BufTy
  | .hbm, ⟨0, _⟩ => ⟨S2x8192x56x128, .i8⟩
  | .hbm, ⟨1, _⟩ => ⟨S56, .f32⟩
  | .hbm, ⟨2, _⟩ => ⟨S2x8192x8x128, .i8⟩
  | .hbm, ⟨3, _⟩ => ⟨S8, .f32⟩
  | .hbm, ⟨4, _⟩ => ⟨S2x8192x8x128, .i8⟩
  | .hbm, ⟨5, _⟩ => ⟨S8x128, .f32⟩
  | .hbm, ⟨6, _⟩ => ⟨S_, .f32⟩
  | .hbm, ⟨7, _⟩ => ⟨S1, .f32⟩
  | .hbm, ⟨8, _⟩ => ⟨S16384x56x128, .i8⟩
  | .hbm, ⟨9, _⟩ => ⟨S16384x8x128, .i8⟩
  | .hbm, ⟨10, _⟩ => ⟨S16384x8x128, .i8⟩
  | .hbm, ⟨11, _⟩ => ⟨S16384x7168, .bf16⟩
  | .hbm, ⟨12, _⟩ => ⟨S2x8192x7168, .bf16⟩
  | .local _ .vmem, ⟨0, _⟩ => ⟨S256x56x128, .i8⟩
  | .local _ .vmem, ⟨1, _⟩ => ⟨S256x56x128, .i8⟩
  | .local _ .vmem, ⟨2, _⟩ => ⟨S256x8x128, .i8⟩
  | .local _ .vmem, ⟨3, _⟩ => ⟨S256x8x128, .i8⟩
  | .local _ .vmem, ⟨4, _⟩ => ⟨S256x8x128, .i8⟩
  | .local _ .vmem, ⟨5, _⟩ => ⟨S256x8x128, .i8⟩
  | .local _ .vmem, ⟨6, _⟩ => ⟨S8x128, .f32⟩
  | .local _ .vmem, ⟨7, _⟩ => ⟨S256x7168, .bf16⟩
  | .local _ .vmem, ⟨8, _⟩ => ⟨S256x7168, .bf16⟩
  | .local _ .vmem, ⟨9, _⟩ => ⟨S14x256x128, .i32⟩
  | .local _ .vmem, ⟨10, _⟩ => ⟨S3x2x128x128, .i32⟩
  | .local _ .vmem, ⟨11, _⟩ => ⟨S3x2x128x128, .i32⟩
  | .local _ .vmem, ⟨12, _⟩ => ⟨S2x448x256, .f32⟩
  | .local _ .vmem, ⟨13, _⟩ => ⟨S2x448x256, .fp8e4m3⟩
  | .local _ .vmem, ⟨14, _⟩ => ⟨S2x448x128, .fp8e4m3⟩
  | .local _ .smem, ⟨0, _⟩ => ⟨S56, .f32⟩
  | .local _ .smem, ⟨1, _⟩ => ⟨S8, .f32⟩
  | .local _ .smem, ⟨2, _⟩ => ⟨S1, .f32⟩
  | _, _ => ⟨S2x8192x56x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x56x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x8192x56x128 : Shape := ⟨4, ![2, 8192, 56, 128]⟩
abbrev S56 : Shape := ⟨1, ![56]⟩
abbrev S2x8192x8x128 : Shape := ⟨4, ![2, 8192, 8, 128]⟩
abbrev S8 : Shape := ⟨1, ![8]⟩
abbrev S8x128 : Shape := ⟨2, ![8, 128]⟩
abbrev S_ : Shape := ⟨0, ![]⟩
abbrev S2x64x128x8x7x128 : Shape := ⟨6, ![2, 64, 128, 8, 7, 128]⟩
abbrev S2x64x128x8x128 : Shape := ⟨5, ![2, 64, 128, 8, 128]⟩
abbrev S2x63x128x8x128 : Shape := ⟨5, ![2, 63, 128, 8, 128]⟩
abbrev S2x64x256x8x128 : Shape := ⟨5, ![2, 64, 256, 8, 128]⟩
abbrev S8x7 : Shape := ⟨2, ![8, 7]⟩
abbrev S8x1 : Shape := ⟨2, ![8, 1]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x64x8x256x128x7 : Shape := ⟨6, ![2, 64, 8, 256, 128, 7]⟩
abbrev S2x64x8x7x128x256 : Shape := ⟨6, ![2, 64, 8, 7, 128, 256]⟩
abbrev S1x1x8x7x1x1 : Shape := ⟨6, ![1, 1, 8, 7, 1, 1]⟩
abbrev S1x64x1x1x128x256 : Shape := ⟨6, ![1, 64, 1, 1, 128, 256]⟩
abbrev S2x64x8x128x7x128 : Shape := ⟨6, ![2, 64, 8, 128, 7, 128]⟩
abbrev S8x1x128 : Shape := ⟨3, ![8, 1, 128]⟩
abbrev S1x1x1x8x1x128 : Shape := ⟨6, ![1, 1, 1, 8, 1, 128]⟩
abbrev S2x8192x7168 : Shape := ⟨3, ![2, 8192, 7168]⟩

abbrev nBuf : Space → Nat
  | .hbm => 111
  | .vmem => 8
  | .smem => 0
  | _ => 0

abbrev bufTy : (tb : Table) → Fin (tcTables nBuf tb) → BufTy
  | .hbm, ⟨0, _⟩ => ⟨S2x8192x56x128, .i8⟩
  | .hbm, ⟨1, _⟩ => ⟨S56, .f32⟩
  | .hbm, ⟨2, _⟩ => ⟨S2x8192x8x128, .i8⟩
  | .hbm, ⟨3, _⟩ => ⟨S8, .f32⟩
  | .hbm, ⟨4, _⟩ => ⟨S2x8192x8x128, .i8⟩
  | .hbm, ⟨5, _⟩ => ⟨S8x128, .f32⟩
  | .hbm, ⟨6, _⟩ => ⟨S_, .f32⟩
  | .hbm, ⟨7, _⟩ => ⟨S2x8192x56x128, .f32⟩
  | .hbm, ⟨8, _⟩ => ⟨S2x8192x8x128, .f32⟩
  | .hbm, ⟨9, _⟩ => ⟨S2x8192x8x128, .f32⟩
  | .hbm, ⟨10, _⟩ => ⟨S2x64x128x8x7x128, .f32⟩
  | .hbm, ⟨11, _⟩ => ⟨S2x64x128x8x128, .f32⟩
  | .hbm, ⟨12, _⟩ => ⟨S2x64x128x8x128, .f32⟩
  | .hbm, ⟨13, _⟩ => ⟨S2x63x128x8x128, .f32⟩
  | .hbm, ⟨14, _⟩ => ⟨S_, .i32⟩
  | .hbm, ⟨15, _⟩ => ⟨S_, .f32⟩
  | .hbm, ⟨16, _⟩ => ⟨S2x64x128x8x128, .f32⟩
  | .hbm, ⟨17, _⟩ => ⟨S2x64x256x8x128, .f32⟩
  | .hbm, ⟨18, _⟩ => ⟨S2x63x128x8x128, .f32⟩
  | .hbm, ⟨19, _⟩ => ⟨S_, .i32⟩
  | .hbm, ⟨20, _⟩ => ⟨S_, .f32⟩
  | .hbm, ⟨21, _⟩ => ⟨S2x64x128x8x128, .f32⟩
  | .hbm, ⟨22, _⟩ => ⟨S2x64x256x8x128, .f32⟩
  | .hbm, ⟨23, _⟩ => ⟨S8x7, .f32⟩
  | .hbm, ⟨24, _⟩ => ⟨S8x1, .f32⟩
  | .hbm, ⟨25, _⟩ => ⟨S8x7, .f32⟩
  | .hbm, ⟨26, _⟩ => ⟨S8x7, .f32⟩
  | .hbm, ⟨27, _⟩ => ⟨S_, .f32⟩
  | .hbm, ⟨28, _⟩ => ⟨S8x7, .f32⟩
  | .hbm, ⟨29, _⟩ => ⟨S8x7, .f32⟩
  | .hbm, ⟨30, _⟩ => ⟨S128, .i32⟩
  | .hbm, ⟨31, _⟩ => ⟨S256, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S64x1x1, .i32⟩
  | .hbm, ⟨49, _⟩ => ⟨S_, .i32⟩
  | .hbm, ⟨50, _⟩ => ⟨S64x1x1, .i32⟩
  | .hbm, ⟨51, _⟩ => ⟨S64x1x1, .i32⟩
  | .hbm, ⟨52, _⟩ => ⟨S_, .i32⟩
  | .hbm, ⟨53, _⟩ => ⟨S64x1x1, .i32⟩
  | .hbm, ⟨54, _⟩ => ⟨S64x1x1, .i32⟩
  | .hbm, ⟨55, _⟩ => ⟨S1x1x256, .i32⟩
  | .hbm, ⟨56, _⟩ => ⟨S64x1x256, .i32⟩
  | .hbm, ⟨57, _⟩ => ⟨S64x1x256, .i32⟩
  | .hbm, ⟨58, _⟩ => ⟨S64x1x256, .i32⟩
  | .hbm, ⟨59, _⟩ => ⟨S1x128x256, .i1⟩
  | .hbm, ⟨60, _⟩ => ⟨S_, .i32⟩
  | .hbm, ⟨61, _⟩ => ⟨S64x1x256, .i32⟩
  | .hbm, ⟨62, _⟩ => ⟨S64x1x256, .i1⟩
  | .hbm, ⟨63, _⟩ => ⟨S64x128x256, .i1⟩
  | .hbm, ⟨64, _⟩ => ⟨S64x128x256, .i1⟩
  | .hbm, ⟨65, _⟩ => ⟨S64x128x256, .i1⟩
  | .hbm, ⟨66, _⟩ => ⟨S2x64x8x256x128x7, .f32⟩
  | .hbm, ⟨67, _⟩ => ⟨S2x64x8x7x128x256, .f32⟩
  | .hbm, ⟨68, _⟩ => ⟨S1x1x8x7x1x1, .f32⟩
  | .hbm, ⟨69, _⟩ => ⟨S2x64x8x7x128x256, .f32⟩
  | .hbm, ⟨70, _⟩ => ⟨S2x64x8x7x128x256, .f32⟩
  | .hbm, ⟨71, _⟩ => ⟨S_, .f32⟩
  | .hbm, ⟨72, _⟩ => ⟨S2x64x8x7x128x256, .f32⟩
  | .hbm, ⟨73, _⟩ => ⟨S2x64x8x7x128x256, .f32⟩
  | .hbm, ⟨74, _⟩ => ⟨S1x64x1x1x128x256, .i1⟩
  | .hbm, ⟨75, _⟩ => ⟨S2x64x8x7x128x256, .f32⟩
  | .hbm, ⟨76, _⟩ => ⟨S2x64x8x7x128x256, .f32⟩
  | .hbm, ⟨77, _⟩ => ⟨S_, .f32⟩
  | .hbm, ⟨78, _⟩ => ⟨S2x64x8x7x128x256, .f32⟩
  | .hbm, ⟨79, _⟩ => ⟨S2x64x8x7x128x256, .f32⟩
  | .hbm, ⟨80, _⟩ => ⟨S_, .f32⟩
  | .hbm, ⟨81, _⟩ => ⟨S2x64x8x7x128x256, .f32⟩
  | .hbm, ⟨82, _⟩ => ⟨S2x64x8x7x128x256, .f32⟩
  | .hbm, ⟨83, _⟩ => ⟨S_, .f32⟩
  | .hbm, ⟨84, _⟩ => ⟨S_, .f32⟩
  | .hbm, ⟨85, _⟩ => ⟨S2x64x8x7x128x256, .i1⟩
  | .hbm, ⟨86, _⟩ => ⟨S2x64x8x7x128x256, .f32⟩
  | .hbm, ⟨87, _⟩ => ⟨S2x64x8x7x128x256, .f32⟩
  | .hbm, ⟨88, _⟩ => ⟨S_, .f32⟩
  | .hbm, ⟨89, _⟩ => ⟨S_, .f32⟩
  | .hbm, ⟨90, _⟩ => ⟨S2x64x8x7x128x256, .f32⟩
  | .hbm, ⟨91, _⟩ => ⟨S2x64x8x7x128x256, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S2x64x8x7x128x256, .f32⟩
  | .hbm, ⟨96, _⟩ => ⟨S2x64x8x7x128x256, .f32⟩
  | .hbm, ⟨97, _⟩ => ⟨S_, .f32⟩
  | .hbm, ⟨98, _⟩ => ⟨S2x64x8x7x128x256, .f32⟩
  | .hbm, ⟨99, _⟩ => ⟨S2x64x8x7x128x256, .f32⟩
  | .hbm, ⟨100, _⟩ => ⟨S2x64x8x7x128x256, .f32⟩
  | .hbm, ⟨101, _⟩ => ⟨S2x64x8x128x7x128, .f32⟩
  | .hbm, ⟨102, _⟩ => ⟨S2x64x128x8x7x128, .f32⟩
  | .hbm, ⟨103, _⟩ => ⟨S8x128, .f32⟩
  | .hbm, ⟨104, _⟩ => ⟨S8x128, .f32⟩
  | .hbm, ⟨105, _⟩ => ⟨S8x1x128, .f32⟩
  | .hbm, ⟨106, _⟩ => ⟨S1x1x1x8x1x128, .f32⟩
  | .hbm, ⟨107, _⟩ => ⟨S2x64x128x8x7x128, .f32⟩
  | .hbm, ⟨108, _⟩ => ⟨S2x64x128x8x7x128, .f32⟩
  | .hbm, ⟨109, _⟩ => ⟨S2x8192x7168, .f32⟩
  | .hbm, ⟨110, _⟩ => ⟨S2x8192x7168, .bf16⟩
  | .local _ .vmem, ⟨0, _⟩ => ⟨S2x8192x56x128, .i8⟩
  | .local _ .vmem, ⟨1, _⟩ => ⟨S2x8192x8x128, .i8⟩
  | .local _ .vmem, ⟨2, _⟩ => ⟨S2x8192x8x128, .i8⟩
  | .local _ .vmem, ⟨3, _⟩ => ⟨S2x8192x56x128, .f32⟩
  | .local _ .vmem, ⟨4, _⟩ => ⟨S2x8192x8x128, .f32⟩
  | .local _ .vmem, ⟨5, _⟩ => ⟨S2x8192x8x128, .f32⟩
  | .local _ .vmem, ⟨6, _⟩ => ⟨S2x64x8x7x128x256, .f32⟩
  | .local _ .vmem, ⟨7, _⟩ => ⟨S2x64x8x7x128x256, .f32⟩
  | _, _ => ⟨S2x8192x56x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_cst_13 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := .none

abbrev stage0_0 : Fin 1 → Memref sig .tc .vmem S2x8192x56x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x8x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x8x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S2x64x8x7x128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x64x8x7x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== Proof.Struct.lean ====
/-
  The kernel body written with its loops.

  The printed body is one straight line of about four thousand loads and stores, because every loop of the
  kernel's source is unrolled while it is traced. This module writes the same sequence of operations with
  the loops of the source put back: `body` below. It is generic in the buffers' signature, so that both
  printed programs are compared with it.
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Win

open Idealize.ShloMosaic Idealize.SL.Sem

/-! ## Shapes -/

abbrev S1 : Shape := ⟨1, ![1]⟩
abbrev S8 : Shape := ⟨1, ![8]⟩
abbrev S56 : Shape := ⟨1, ![56]⟩
abbrev S1x1 : Shape := ⟨2, ![1, 1]⟩
abbrev S8x128 : Shape := ⟨2, ![8, 128]⟩
abbrev S1x128 : Shape := ⟨2, ![1, 128]⟩
abbrev S32x128 : Shape := ⟨2, ![32, 128]⟩
abbrev S64x128 : Shape := ⟨2, ![64, 128]⟩
abbrev S64x256 : Shape := ⟨2, ![64, 256]⟩
abbrev S128x256 : Shape := ⟨2, ![128, 256]⟩
abbrev S256x256 : Shape := ⟨2, ![256, 256]⟩
abbrev S448x128 : Shape := ⟨2, ![448, 128]⟩
abbrev S448x256 : Shape := ⟨2, ![448, 256]⟩
abbrev S256x7168 : Shape := ⟨2, ![256, 7168]⟩
abbrev S8x4x128 : Shape := ⟨3, ![8, 4, 128]⟩
abbrev S1x8x128 : Shape := ⟨3, ![1, 8, 128]⟩
abbrev S1x64x128 : Shape := ⟨3, ![1, 64, 128]⟩
abbrev S1x64x256 : Shape := ⟨3, ![1, 64, 256]⟩
abbrev S1x448x256 : Shape := ⟨3, ![1, 448, 256]⟩
abbrev S1x448x128 : Shape := ⟨3, ![1, 448, 128]⟩
abbrev S2x448x256 : Shape := ⟨3, ![2, 448, 256]⟩
abbrev S2x448x128 : Shape := ⟨3, ![2, 448, 128]⟩
abbrev S2x128x128 : Shape := ⟨3, ![2, 128, 128]⟩
abbrev S128x8x128 : Shape := ⟨3, ![128, 8, 128]⟩
abbrev S256x8x128 : Shape := ⟨3, ![256, 8, 128]⟩
abbrev S256x56x128 : Shape := ⟨3, ![256, 56, 128]⟩
abbrev S14x256x128 : Shape := ⟨3, ![14, 256, 128]⟩
abbrev S2x4x4x128 : Shape := ⟨4, ![2, 4, 4, 128]⟩
abbrev S1x2x128x128 : Shape := ⟨4, ![1, 2, 128, 128]⟩
abbrev S3x2x128x128 : Shape := ⟨4, ![3, 2, 128, 128]⟩

/-! ## Side conditions, from one fact per axis -/

/-- A block of two axes is inside its array when it is so on each axis. -/
theorem inb2 {a b s t m n : ℕ} (h0 : a + s ≤ m) (h1 : b + t ≤ n) :
    ∀ x : Fin 2, (![a, b] : Fin 2 → ℕ) x + (![s, t] : Fin 2 → ℕ) x ≤ (![m, n] : Fin 2 → ℕ) x :=
  Fin.forall_fin_two.mpr ⟨h0, h1⟩

/-- The same for three axes. -/
theorem inb3 {a b c s t u l m n : ℕ} (h0 : a + s ≤ l) (h1 : b + t ≤ m) (h2 : c + u ≤ n) :
    ∀ x : Fin 3, (![a, b, c] : Fin 3 → ℕ) x + (![s, t, u] : Fin 3 → ℕ) x ≤ (![l, m, n] : Fin 3 → ℕ) x := by
  intro x; fin_cases x <;> assumption

/-- The same for four axes. -/
theorem inb4 {a b c d s t u v k l m n : ℕ} (h0 : a + s ≤ k) (h1 : b + t ≤ l) (h2 : c + u ≤ m) (h3 : d + v ≤ n) :
    ∀ x : Fin 4, (![a, b, c, d] : Fin 4 → ℕ) x + (![s, t, u, v] : Fin 4 → ℕ) x ≤ (![k, l, m, n] : Fin 4 → ℕ) x := by
  intro x; fin_cases x <;> assumption

/-- Eight rows four apart are inside their array when the last of them is. -/
theorem inbS {q f Qd T : ℕ} (h0 : q < Qd) (h1 : f + 28 < T) :
    ∀ x : Fin 3, (![1, 8, 128] : Fin 3 → ℕ) x = 0 ∨
      (![q, f, 0] : Fin 3 → ℕ) x + (![1, 4, 1] : Fin 3 → ℕ) x * ((![1, 8, 128] : Fin 3 → ℕ) x - 1) < (![Qd, T, 128] : Fin 3 → ℕ) x := by
  intro x; right; fin_cases x
  · show q + 1 * (1 - 1) < Qd; omega
  · show f + 4 * (8 - 1) < T; omega
  · show 0 + 1 * (128 - 1) < 128; omega

/-- The block of the result written for one head and half window is whole words. -/
theorem packedO (r c : ℕ) (hr : r * 64 + 64 ≤ 256) (hc : c * 128 + 128 ≤ 7168) :
    (Rect.unit (s := S256x7168) ![r * 64, c * 128] S64x128.size (inb2 hr hc)).PackedRows (EltTy.packing .bf16) := by
  right
  refine ⟨le_refl 2, rfl, Or.inl ⟨?_, ?_⟩⟩
  · show 2 ∣ r * 64; omega
  · show 2 ∣ 64; decide

/-- The blocks of the weights' codes are whole words. -/
theorem packedP {W : ℕ} (s r c : ℕ) (hs : s + 1 ≤ 2) (hr : r * 64 + 64 ≤ 448) (hc : c + 128 ≤ W) :
    (Rect.unit (s := ⟨3, ![2, 448, W]⟩) ![s, r * 64, c] S1x64x128.size (inb3 hs hr hc)).PackedRows (EltTy.packing .fp8e4m3) := by
  right
  refine ⟨(by show 2 ≤ 3; omega), rfl, Or.inl ⟨?_, ?_⟩⟩
  · show 4 ∣ r * 64; omega
  · show 4 ∣ 64; decide

/-- A block of 64 by 128 of an array of two axes. -/
theorem slices2 {M N : ℕ} (a b : ℕ) (h0 : a + 64 ≤ M) (h1 : b + 128 ≤ N) :
    (⟨2, ![M, N]⟩ : Shape).Slices ![a, b] S64x128 :=
  ⟨rfl, Fin.forall_fin_two.mpr ⟨h0, h1⟩⟩

/-- One window of the packed rows, without its leading axis. -/
theorem squeezes_slot : S1x2x128x128.Squeezes S2x128x128 := by decide

theorem cat_diag : Shape.Concatenates [S64x256, S64x256] S128x256 0 := by decide
theorem cat_stack : Shape.Concatenates [S128x256, S128x256] S256x256 0 := by decide
theorem cat_rows : Shape.Concatenates [S32x128, S32x128] S64x128 0 := by decide
theorem cat_beside : Shape.Concatenates [S64x128, S64x128] S64x256 1 := by decide
theorem cat_seven : Shape.Concatenates [S64x256, S64x256, S64x256, S64x256, S64x256, S64x256, S64x256] S448x256 0 := by decide

theorem numel_one : S1.numel = 1 := by decide

/-! ## The matrix products -/

abbrev dotS1 : DotDims S448x256 S256x256 S448x256 where
  lhsContracting := [1]
  rhsContracting := [1]
  lhsNonContracting := [0]
  rhsNonContracting := [0]
  lhsBatch := []
  rhsBatch := []
  wf := by decide
abbrev dotS2 : DotDims S448x256 S128x256 S448x128 where
  lhsContracting := [1]
  rhsContracting := [1]
  lhsNonContracting := [0]
  rhsNonContracting := [0]
  lhsBatch := []
  rhsBatch := []
  wf := by decide
abbrev dotP1 : DotDims S448x256 S256x256 S448x256 where
  lhsContracting := [1]
  rhsContracting := [0]
  lhsNonContracting := [0]
  rhsNonContracting := [1]
  lhsBatch := []
  rhsBatch := []
  wf := by decide
abbrev dotP2 : DotDims S448x128 S128x256 S448x256 where
  lhsContracting := [1]
  rhsContracting := [0]
  lhsNonContracting := [0]
  rhsNonContracting := [1]
  lhsBatch := []
  rhsBatch := []
  wf := by decide

/-! ## Pure values -/

section Values

variable {F : FTy → Type} [FloatOps F]

/-- Thirty-two rows of codes, eight tokens of four heads, as eight rows of words: each word packs four
    consecutive tokens of one head. -/
def words (x : IVec S8x4x128 8) : IVec S1x8x128 32 :=
  shapeCast S1x8x128 (bitcast S8x128 32 (shapeCast S32x128 (transpose S2x4x4x128 [0, 2, 1, 3]
    (shapeCast S2x4x4x128 (shapeCast S32x128 (shapeCast S8x4x128 x (by decide)) (by decide)) (by decide)) (by decide))
    (by decide)) (by decide)) (by decide)

/-- Eight rows of words as the thirty-two rows of codes they pack. -/
def unpack (y : IVec S1x8x128 32) : FVec F S32x128 .fp8e4m3 :=
  bitcastToFloat .fp8e4m3 (bitcast S32x128 8 (shapeCast S8x128 y (by decide)) (by decide))

/-- Sixty-four rows of one head's codes. -/
def rows64 (y z : IVec S1x8x128 32) : FVec F S64x128 .fp8e4m3 :=
  concatenate S64x128 0 [⟨S32x128, unpack y⟩, ⟨S32x128, unpack z⟩] cat_rows

/-- Two arrays side by side. -/
def beside (l r : FVec F S64x128 .fp8e4m3) : FVec F S64x256 .fp8e4m3 :=
  concatenate S64x256 1 [⟨S64x128, l⟩, ⟨S64x128, r⟩] cat_beside

/-- The zero array. -/
def zero64 : FVec F S64x128 .fp8e4m3 := broadcast S64x128 (Scalar.ofBits .fp8e4m3 0x00#8)

/-- Two arrays on the diagonal, zeros off it. -/
def diag (l r : FVec F S64x128 .fp8e4m3) : FVec F S128x256 .fp8e4m3 :=
  concatenate S128x256 0 [⟨S64x256, beside l zero64⟩, ⟨S64x256, beside zero64 r⟩] cat_diag

/-- Two such arrays, one above the other. -/
def stack (t b : FVec F S128x256 .fp8e4m3) : FVec F S256x256 .fp8e4m3 :=
  concatenate S256x256 0 [⟨S128x256, t⟩, ⟨S128x256, b⟩] cat_stack

/-- The mask of the keys at or before the query, in one half window. -/
def causal : IVec S64x128 1 :=
  cmpi .sle (andi (iota .tc S64x128 32 [1] (by decide)) (broadcast S64x128 63#32)) (iota .tc S64x128 32 [0] (by decide))

/-- One over the weights' scale. -/
def invps (ps : F .f32) : FVec F S1x128 .f32 :=
  divf (broadcast S1x128 (Scalar.ofBits .f32 0x3F800000#32))
    (extractStridedSlice S1x128 ![0, 0] (broadcast S8x128 ps) (by decide))

/-- The codes of the clipped, scaled weights of sixty-four rows of scores. -/
def weights (ip : FVec F S1x128 .f32) (qs ks : F .f32) (s : FVec F S1x64x256 .f32) : FVec F S64x256 .fp8e4m3 :=
  truncf .fp8e4m3 (minimumf (broadcast S64x256 (Scalar.ofBits .f32 0x43E00000#32))
    (maximumf (broadcast S64x256 (Scalar.ofBits .f32 0x00000000#32))
      (mulf
        (logistic (addf (mulf (shapeCast S64x256 s (by decide))
            (broadcast S64x256 (Scalar.mulf (Scalar.mulf qs ks) (Scalar.ofBits .f32 0x3DB504F3#32))))
          (broadcast S64x256 (Scalar.ofBits .f32 0xC09B43D5#32))))
        (broadcastTo S64x256 (extractStridedSlice S1x1 ![0, 0] ip (by decide)) (by decide))))) (by decide)

def toRow (x : FVec F S64x128 .fp8e4m3) : FVec F S1x64x128 .fp8e4m3 := shapeCast S1x64x128 x (by decide)

/-- The weights' codes as stored: the keys always seen, the keys seen up to the query, and the keys
    seen past it. -/
def codesA (w : FVec F S64x256 .fp8e4m3) : FVec F S1x64x128 .fp8e4m3 :=
  toRow (extractStridedSlice S64x128 ![0, 0] w (by decide))
def codesB (w : FVec F S64x256 .fp8e4m3) : FVec F S1x64x128 .fp8e4m3 :=
  toRow (select causal (extractStridedSlice S64x128 ![0, 128] w (by decide)) zero64)
def codesC (w : FVec F S64x256 .fp8e4m3) : FVec F S1x64x128 .fp8e4m3 :=
  toRow (select causal zero64 (extractStridedSlice S64x128 ![0, 128] w (by decide)))

/-- The seven heads' query rows of one group, one above the other. -/
def stack7 (a b c d e f g : FVec F S64x256 .fp8e4m3) : FVec F S448x256 .fp8e4m3 :=
  concatenate S448x256 0 [⟨S64x256, a⟩, ⟨S64x256, b⟩, ⟨S64x256, c⟩, ⟨S64x256, d⟩, ⟨S64x256, e⟩, ⟨S64x256, f⟩, ⟨S64x256, g⟩] cat_seven

def scores1 (l : FVec F S448x256 .fp8e4m3) (r : FVec F S256x256 .fp8e4m3) : FVec F S448x256 .f32 :=
  matmul dotS1 none l r (constant S448x256 .f32 0x00000000#32)
def scores2 (l : FVec F S448x256 .fp8e4m3) (r : FVec F S128x256 .fp8e4m3) : FVec F S448x128 .f32 :=
  matmul dotS2 none l r (constant S448x128 .f32 0x00000000#32)

/-- The scores stored for one head: against the keys always seen, and against the others. -/
def scoreA (s1 : FVec F S448x256 .f32) (r : Fin 7) : FVec F S1x64x128 .f32 :=
  shapeCast S1x64x128 (extractStridedSlice S64x128 ![r.val * 64, 0] s1 (slices2 _ _ (by omega) (by omega))) (by decide)
def scoreB (s1 : FVec F S448x256 .f32) (s2 : FVec F S448x128 .f32) (r : Fin 7) : FVec F S1x64x128 .f32 :=
  shapeCast S1x64x128 (select causal (extractStridedSlice S64x128 ![r.val * 64, 128] s1 (slices2 _ _ (by omega) (by omega)))
    (extractStridedSlice S64x128 ![r.val * 64, 0] s2 (slices2 _ _ (by omega) (by omega)))) (by decide)

/-- The weighted sums of one group. -/
def sums (p1 : FVec F S1x448x256 .fp8e4m3) (p2 : FVec F S1x448x128 .fp8e4m3) (r1 : FVec F S256x256 .fp8e4m3)
    (r2 : FVec F S128x256 .fp8e4m3) : FVec F S448x256 .f32 :=
  addf (matmul dotP1 none (shapeCast S448x256 p1 (by decide)) r1 (constant S448x256 .f32 0x00000000#32))
    (matmul dotP2 none (shapeCast S448x128 p2 (by decide)) r2 (constant S448x256 .f32 0x00000000#32))

def outscale (ps : F .f32) (vs : FVec F S1x128 .f32) : FVec F S1x128 .f32 := mulf (broadcast S1x128 ps) vs

/-- One head's result for one half window: `c` is 0 for the first half, 128 for the second. -/
def outBlock (o : FVec F S448x256 .f32) (sc : FVec F S1x128 .f32) (r : Fin 7) (c : Fin 2) : FVec F S64x128 .bf16 :=
  truncf .bf16 (mulf (extractStridedSlice S64x128 ![r.val * 64, c.val * 128] o (slices2 _ _ (by omega) (by omega)))
    (broadcastTo S64x128 sc (by decide))) (by decide)

end Values

/-! ## The program -/

section Program

variable {F : FTy → Type} [FloatOps F] {nD : ℕ} {τ : Topo} {sig : RefSig} {Λ : Labels}

/-- The buffers the body works on. -/
structure Refs (sig : RefSig) where
  qs : Memref sig .tc .smem S56 .f32
  ks : Memref sig .tc .smem S8 .f32
  ps : Memref sig .tc .smem S1 .f32
  q : Memref sig .tc .vmem S256x56x128 .i8
  k : Memref sig .tc .vmem S256x8x128 .i8
  v : Memref sig .tc .vmem S256x8x128 .i8
  vs : Memref sig .tc .vmem S8x128 .f32
  o : Memref sig .tc .vmem S256x7168 .bf16
  ho : o.IsWhole
  wq : Memref sig .tc .vmem S14x256x128 .i32
  wk : Memref sig .tc .vmem S3x2x128x128 .i32
  wv : Memref sig .tc .vmem S3x2x128x128 .i32
  sa : Memref sig .tc .vmem S2x448x256 .f32
  p1 : Memref sig .tc .vmem S2x448x256 .fp8e4m3
  h1 : p1.IsWhole
  p2 : Memref sig .tc .vmem S2x448x128 .fp8e4m3
  h2 : p2.IsWhole

/-- The steps `f i`, `f (i + 1)`, …, `f (n - 1)`, of which `k` are left. -/
def stepsFrom {n : ℕ} (f : Fin n → Prog (TpuEff nD τ sig (Elt F) Λ .tc) PUnit) : (k i : ℕ) → k + i = n → Prog (TpuEff nD τ sig (Elt F) Λ .tc) PUnit
  | 0, _, _ => .ret ⟨⟩
  | k + 1, i, h => (f ⟨i, by omega⟩).bind fun _ => stepsFrom f k (i + 1) (by omega)

/-- The steps `f 0`, `f 1`, …, `f (n - 1)`. -/
def steps (n : ℕ) (f : Fin n → Prog (TpuEff nD τ sig (Elt F) Λ .tc) PUnit) : Prog (TpuEff nD τ sig (Elt F) Λ .tc) PUnit := stepsFrom f n 0 rfl

/-- Load through a block of rows that may lie apart. -/
abbrev ldr {s : Shape} {e : EltTy} (m : Memref sig .tc .vmem s e) (r : LoadRect s) (h : 0 < r.shape.numel) :
    Prog (TpuEff nD τ sig (Elt F) Λ .tc) (r.shape.Idx → Elt F e) :=
  Prog.lift (.load m r (View.loadsAt_vmem h))

/-- Load through a block. -/
abbrev ldv {s : Shape} {e : EltTy} (m : Memref sig .tc .vmem s e) (r : Rect s) (h : 0 < r.shape.numel) :
    Prog (TpuEff nD τ sig (Elt F) Λ .tc) (r.shape.Idx → Elt F e) :=
  Prog.lift (.load m r.toLoadRect (View.loadsAt_vmem h))

/-- Load through a block, then store into it. -/
abbrev stv {s : Shape} {e : EltTy} (m : Memref sig .tc .vmem s e) (r : Rect s) (h : 0 < r.shape.numel)
    (w : r.shape.Idx → Elt F e) (hs : (m.access r).Stores Finset.univ) : Prog (TpuEff nD τ sig (Elt F) Λ .tc) PUnit :=
  (Prog.lift (.load m r.toLoadRect (View.loadsAt_vmem h))).bind fun (_ : r.shape.Idx → Elt F e) =>
    Prog.lift (.store m r w Finset.univ hs (.inl rfl))

/-- Pack eight tokens of four heads. -/
def splitStep {T H Qd : ℕ} (src : Memref sig .tc .vmem ⟨3, ![T, H, 128]⟩ .i8)
    (dst : Memref sig .tc .vmem ⟨3, ![Qd, T, 128]⟩ .i32) (q t : ℕ) (hH : q * 4 + 4 ≤ H) (hT : t * 8 + 8 ≤ T)
    (hQ : q + 1 ≤ Qd) : Prog (TpuEff nD τ sig (Elt F) Λ .tc) PUnit :=
  (ldv src (Rect.unit (s := ⟨3, ![T, H, 128]⟩) ![t * 8, q * 4, 0] S8x4x128.size (inb3 hT hH (by omega)))
      (by decide : 0 < S8x4x128.numel)).bind fun x =>
    stv dst (Rect.unit (s := ⟨3, ![Qd, T, 128]⟩) ![q, t * 8, 0] S1x8x128.size (inb3 hQ hT (by omega)))
      (by decide : 0 < S1x8x128.numel) (words x)
      (View.stores_vmem_bits_univ (by decide : 0 < S1x8x128.numel) rfl)

/-- Pack all tokens of all heads. -/
def split {T H Qd : ℕ} (src : Memref sig .tc .vmem ⟨3, ![T, H, 128]⟩ .i8)
    (dst : Memref sig .tc .vmem ⟨3, ![Qd, T, 128]⟩ .i32) (NT : ℕ) (hH : Qd * 4 ≤ H) (hT : NT * 8 ≤ T) : Prog (TpuEff nD τ sig (Elt F) Λ .tc) PUnit :=
  steps Qd fun q => steps NT fun t => splitStep src dst q t (by omega) (by omega) (by omega)

/-- Sixty-four rows of one head, from `first` on. -/
def headRows {T Qd : ℕ} (w : Memref sig .tc .vmem ⟨3, ![Qd, T, 128]⟩ .i32) (head first : ℕ) (hH : head / 4 < Qd)
    (hT : first + 64 ≤ T) : Prog (TpuEff nD τ sig (Elt F) Λ .tc) (FVec F S64x128 .fp8e4m3) :=
  (ldr w (⟨![head / 4, first + head % 4, 0], S1x8x128.size, ![1, 4, 1], inbS hH (by omega)⟩ : LoadRect ⟨3, ![Qd, T, 128]⟩)
    (by decide : 0 < S1x8x128.numel)).bind fun y =>
  (ldr w (⟨![head / 4, first + 32 + head % 4, 0], S1x8x128.size, ![1, 4, 1], inbS hH (by omega)⟩ : LoadRect ⟨3, ![Qd, T, 128]⟩)
    (by decide : 0 < S1x8x128.numel)).bind fun z =>
  .ret (rows64 y z)

/-- One window of the packed keys or values. -/
abbrev slot (w : Memref sig .tc .vmem S3x2x128x128 .i32) (n : ℕ) (h : n < 3) : Memref sig .tc .vmem S2x128x128 .i32 :=
  (w.slice (Rect.unit (s := S3x2x128x128) ![n, 0, 0, 0] S1x2x128x128.size (inb4 h (by omega) (by omega) (by omega))) (fun _ => rfl)).squeeze
    S2x128x128 squeezes_slot

/-- Pack one window's keys or values. -/
def splitKV (src : Memref sig .tc .vmem S256x8x128 .i8) (dst : Memref sig .tc .vmem S3x2x128x128 .i32) (n : Fin 2) : Prog (TpuEff nD τ sig (Elt F) Λ .tc) PUnit :=
  split (T := 128) (H := 8) (Qd := 2)
    (src.slice (Rect.unit (s := S256x8x128) ![n.val * 128, 0, 0] S128x8x128.size (inb3 (by omega) (by omega) (by omega))) (fun _ => rfl))
    (slot dst (n.val + 1) (by omega)) 16 (by omega) (by omega)

/-- The query rows of one head, both half windows side by side. -/
def queryRows (wq : Memref sig .tc .vmem S14x256x128 .i32) (n : Fin 2) (g : Fin 8) (r : ℕ) (hr : r < 7) : Prog (TpuEff nD τ sig (Elt F) Λ .tc) (FVec F S64x256 .fp8e4m3) :=
  (headRows (T := 256) (Qd := 14) wq (g.val * 7 + r) (n.val * 128) (by omega) (by omega)).bind fun a =>
  (headRows (T := 256) (Qd := 14) wq (g.val * 7 + r) (n.val * 128 + 64) (by omega) (by omega)).bind fun b =>
  .ret (beside a b)

variable (R : Refs sig)

/-- The rows of keys or values one group sees: the window before, then the window itself. -/
def groupRows {α : Type} (w : Memref sig .tc .vmem S3x2x128x128 .i32) (n : Fin 2) (g : Fin 8)
    (k : FVec F S64x128 .fp8e4m3 → FVec F S64x128 .fp8e4m3 → FVec F S64x128 .fp8e4m3 → FVec F S64x128 .fp8e4m3 → Prog (TpuEff nD τ sig (Elt F) Λ .tc) α) : Prog (TpuEff nD τ sig (Elt F) Λ .tc) α :=
  (headRows (T := 128) (Qd := 2) (slot w n.val (by omega)) g 0 (by omega) (by omega)).bind fun a0 =>
  (headRows (T := 128) (Qd := 2) (slot w n.val (by omega)) g 64 (by omega) (by omega)).bind fun a1 =>
  (headRows (T := 128) (Qd := 2) (slot w (n.val + 1) (by omega)) g 0 (by omega) (by omega)).bind fun b0 =>
  (headRows (T := 128) (Qd := 2) (slot w (n.val + 1) (by omega)) g 64 (by omega) (by omega)).bind fun b1 =>
  k a0 a1 b0 b1

/-- The scores of one group in one window, into the scores' slot `i % 2`. -/
def scoreStep (i : ℕ) (n : Fin 2) (g : Fin 8) : Prog (TpuEff nD τ sig (Elt F) Λ .tc) PUnit :=
  groupRows R.wk n g fun a0 a1 b0 b1 =>
  (queryRows R.wq n g 0 (by omega)).bind fun l0 =>
  (queryRows R.wq n g 1 (by omega)).bind fun l1 =>
  (queryRows R.wq n g 2 (by omega)).bind fun l2 =>
  (queryRows R.wq n g 3 (by omega)).bind fun l3 =>
  (queryRows R.wq n g 4 (by omega)).bind fun l4 =>
  (queryRows R.wq n g 5 (by omega)).bind fun l5 =>
  (queryRows R.wq n g 6 (by omega)).bind fun l6 =>
  steps 7 fun r =>
    (stv R.sa (Rect.unit (s := S2x448x256) ![i % 2, r.val * 64, 0] S1x64x128.size (inb3 (by omega) (by omega) (by omega)))
      (by decide : 0 < S1x64x128.numel)
      (scoreA (scores1 (stack7 l0 l1 l2 l3 l4 l5 l6) (stack (diag a1 b0) (diag b0 b1))) r)
      (View.stores_vmem_bits_univ (by decide : 0 < S1x64x128.numel) rfl)).bind fun _ =>
    stv R.sa (Rect.unit (s := S2x448x256) ![i % 2, r.val * 64, 128] S1x64x128.size (inb3 (by omega) (by omega) (by omega)))
      (by decide : 0 < S1x64x128.numel)
      (scoreB (scores1 (stack7 l0 l1 l2 l3 l4 l5 l6) (stack (diag a1 b0) (diag b0 b1)))
        (scores2 (stack7 l0 l1 l2 l3 l4 l5 l6) (diag a0 a1)) r)
      (View.stores_vmem_bits_univ (by decide : 0 < S1x64x128.numel) rfl)

/-- The weights' codes of one group in one window. -/
def weightStep (ip : FVec F S1x128 .f32) (i : ℕ) (g : Fin 8) : Prog (TpuEff nD τ sig (Elt F) Λ .tc) PUnit :=
  steps 7 fun r =>
    (smemLoad R.qs (Rect.unit (s := S56) ![g.val * 7 + r.val] S1.size (Rect.inb₁ (by show g.val * 7 + r.val + 1 ≤ 56; omega))) numel_one rfl).bind fun qs =>
    (smemLoad R.ks (Rect.unit (s := S8) ![g.val] S1.size (Rect.inb₁ (by show g.val + 1 ≤ 8; omega))) numel_one rfl).bind fun ks =>
    (ldv R.sa (Rect.unit (s := S2x448x256) ![i % 2, r.val * 64, 0] S1x64x256.size (inb3 (by omega) (by omega) (by omega)))
      (by decide : 0 < S1x64x256.numel)).bind fun s =>
    (stv R.p1 (Rect.unit (s := S2x448x256) ![i % 2, r.val * 64, 0] S1x64x128.size (inb3 (by omega) (by omega) (by omega)))
      (by decide : 0 < S1x64x128.numel) (codesA (weights ip qs ks s))
      (View.stores_vmem (by decide : 0 < S1x64x128.numel) (R.h1.storeExact_slice rfl _ (packedP (W := 256) _ _ _ (by omega) (by omega) (by omega))) (fun _ => rfl))).bind fun _ =>
    (stv R.p1 (Rect.unit (s := S2x448x256) ![i % 2, r.val * 64, 128] S1x64x128.size (inb3 (by omega) (by omega) (by omega)))
      (by decide : 0 < S1x64x128.numel) (codesB (weights ip qs ks s))
      (View.stores_vmem (by decide : 0 < S1x64x128.numel) (R.h1.storeExact_slice rfl _ (packedP (W := 256) _ _ _ (by omega) (by omega) (by omega))) (fun _ => rfl))).bind fun _ =>
    stv R.p2 (Rect.unit (s := S2x448x128) ![i % 2, r.val * 64, 0] S1x64x128.size (inb3 (by omega) (by omega) (by omega)))
      (by decide : 0 < S1x64x128.numel) (codesC (weights ip qs ks s))
      (View.stores_vmem (by decide : 0 < S1x64x128.numel) (R.h2.storeExact_slice rfl _ (packedP (W := 128) _ _ _ (by omega) (by omega) (by omega))) (fun _ => rfl))

/-- The results of one group in one window. -/
def sumStep (ps : F .f32) (i : ℕ) (n : Fin 2) (g : Fin 8) : Prog (TpuEff nD τ sig (Elt F) Λ .tc) PUnit :=
  groupRows R.wv n g fun a0 a1 b0 b1 =>
  (ldv R.p1 (Rect.unit (s := S2x448x256) ![i % 2, 0, 0] S1x448x256.size (inb3 (by omega) (by omega) (by omega)))
      (by decide : 0 < S1x448x256.numel)).bind fun x1 =>
  (ldv R.p2 (Rect.unit (s := S2x448x128) ![i % 2, 0, 0] S1x448x128.size (inb3 (by omega) (by omega) (by omega)))
      (by decide : 0 < S1x448x128.numel)).bind fun x2 =>
  (ldv R.vs (Rect.unit (s := S8x128) ![g.val, 0] S1x128.size (inb2 (by omega) (by omega)))
      (by decide : 0 < S1x128.numel)).bind fun vs =>
  steps 7 fun r => steps 2 fun c =>
    stv R.o (Rect.unit (s := S256x7168) ![(n.val * 2 + c.val) * 64, (g.val * 7 + r.val) * 128] S64x128.size (inb2 (by omega) (by omega)))
      (by decide : 0 < S64x128.numel)
      (outBlock (sums x1 x2 (stack (diag a1 b0) (diag b0 b1)) (diag a0 a1)) (outscale ps vs) r c)
      (View.stores_vmem (by decide : 0 < S64x128.numel) (R.ho.storeExact_slice rfl _ (packedO _ _ (by omega) (by omega))) (fun _ => rfl))

/-- Step `i` of the software pipeline: the scores of item `i`, the weights of item `i - 1`, the results of
    item `i - 2`; the keys and values of a window are packed when its first item comes. -/
def pipeStep (ip : FVec F S1x128 .f32) (ps : F .f32) (i : Fin 18) : Prog (TpuEff nD τ sig (Elt F) Λ .tc) PUnit :=
  (if i.val = 0 ∨ i.val = 8 then
      (splitKV R.k R.wk ⟨i.val / 8 % 2, by omega⟩).bind fun _ => splitKV R.v R.wv ⟨i.val / 8 % 2, by omega⟩
    else .ret ⟨⟩).bind fun _ =>
  (if i.val < 16 then scoreStep R i.val ⟨i.val / 8 % 2, by omega⟩ ⟨i.val % 8, by omega⟩ else .ret ⟨⟩).bind fun _ =>
  (if 1 ≤ i.val ∧ i.val ≤ 16 then weightStep R ip (i.val - 1) ⟨(i.val - 1) % 8, by omega⟩ else .ret ⟨⟩).bind fun _ =>
  if 2 ≤ i.val then sumStep R ps (i.val - 2) ⟨(i.val - 2) / 8 % 2, by omega⟩ ⟨(i.val - 2) % 8, by omega⟩ else .ret ⟨⟩

/-- One whole window of packed keys or values. -/
abbrev slotRect (n : ℕ) (h : n < 3) : Rect S3x2x128x128 :=
  Rect.unit (s := S3x2x128x128) ![n, 0, 0, 0] S1x2x128x128.size (inb4 h (by omega) (by omega) (by omega))

/-- Zero the last window of packed keys or values. -/
def clear (w : Memref sig .tc .vmem S3x2x128x128 .i32) : Prog (TpuEff nD τ sig (Elt F) Λ .tc) PUnit :=
  stv w (slotRect 2 (by omega)) (by decide : 0 < S1x2x128x128.numel)
    (shapeCast S1x2x128x128 (broadcast S2x128x128 0#32 : IVec S2x128x128 32) (by decide))
    (View.stores_vmem_bits_univ (by decide : 0 < S1x2x128x128.numel) rfl)

/-- Move the last window of packed keys or values to the first. -/
def carry (w : Memref sig .tc .vmem S3x2x128x128 .i32) : Prog (TpuEff nD τ sig (Elt F) Λ .tc) PUnit :=
  (ldv w (slotRect 2 (by omega)) (by decide : 0 < S1x2x128x128.numel)).bind fun (x : IVec S1x2x128x128 32) =>
  stv w (slotRect 0 (by omega)) (by decide : 0 < S1x2x128x128.numel)
    (shapeCast S1x2x128x128 (shapeCast S2x128x128 x (by decide)) (by decide))
    (View.stores_vmem_bits_univ (by decide : 0 < S1x2x128x128.numel) rfl)

/-- Whether grid point `i` starts a sequence. -/
def startWord (i : ℕ) : BitVec 1 :=
  let a := BitVec.ofNat 32 i
  let v1 : BitVec 32 := Scalar.select (Scalar.cmpi .eq (32#32) (0#32)) 1#32 32#32
  let v2 : BitVec 32 := Scalar.remsi a v1
  Scalar.cmpi .ne (Scalar.extui (Scalar.cmpi .eq
    (Scalar.select (Scalar.andi (Scalar.xori (Scalar.cmpi .slt v2 0#32) (Scalar.cmpi .slt v1 0#32)) (Scalar.cmpi .ne v2 0#32))
      (Scalar.addi v2 v1) v2) 0#32)) 0#32

/-- The body at grid point `i`. -/
def body (i : ℕ) : Prog (TpuEff nD τ sig (Elt F) Λ .tc) PUnit :=
  (if startWord i = 1#1 then (clear R.wk).bind fun _ => clear R.wv else .ret ⟨⟩).bind fun _ =>
  (carry R.wk).bind fun _ =>
  (carry R.wv).bind fun _ =>
  (split (T := 256) (H := 56) (Qd := 14) R.q R.wq 32 (by omega) (by omega)).bind fun _ =>
  (smemLoad R.ps (Rect.unit (s := S1) ![0] S1.size (Rect.inb₁ (by decide))) numel_one rfl).bind fun ps =>
  steps 18 (pipeStep R (invps ps) ps)

end Program

end Win

end
-- ==== Proof.Words.lean ====
/-
  What the packed words hold.

  The kernel packs four consecutive tokens of one head into each 32-bit word. `Packed W c` says that the words
  `W` hold the codes `c`, which are indexed by token, head and lane. Eight-token blocks packed by `words` hold
  their codes (`words_bit`), and the rows read back by two strided loads are a head's codes (`rows64_eq`).
-/
module

public import proofs.«01_k».proof.Proof.Struct
public import Idealize.ShloMosaic.Lib.ValueIdx
public import Idealize.ShloMosaic.Lib.ValueLayout
public import Idealize.ShloMosaic.Lib.BitcastFour
public import Idealize.ShloMosaic.Lib.BitcastPair
public import Idealize.ShloMosaic.Lib.Pointwise
public import Idealize.ShloMosaic.Lib.Pipeline.Value

@[expose] public section

noncomputable section

namespace Win

open Idealize.ShloMosaic hiding ix1 ix2 ix3 ix4 ix5 eq_ix1 eq_ix2 eq_ix3 eq_ix4 eq_ix5
open Idealize.ShloMosaic.ValueIdx

/-- Two arrays of two axes, one above the other, at a row of the first. -/
theorem cat0_left {α : Type} {M m₁ m₂ n : ℕ} (x : (⟨2, ![m₁, n]⟩ : Shape).Idx → α) (y : (⟨2, ![m₂, n]⟩ : Shape).Idx → α)
    (h : Shape.Concatenates [⟨2, ![m₁, n]⟩, ⟨2, ![m₂, n]⟩] ⟨2, ![M, n]⟩ 0) (a : Fin M) (l : Fin n) (a' : Fin m₁) (ha : a'.val = a.val) :
    concatenate ⟨2, ![M, n]⟩ 0 [⟨⟨2, ![m₁, n]⟩, x⟩, ⟨⟨2, ![m₂, n]⟩, y⟩] h (ix2 a l) = x (ix2 a' l) :=
  concatenate_pair_apply_left (t := ⟨2, ![M, n]⟩) (s₁ := ⟨2, ![m₁, n]⟩) (s₂ := ⟨2, ![m₂, n]⟩) 0 x y h (ix2 a l) rfl (ix2 a' l)
    (fun b => match b with | ⟨0, _⟩ => ha | ⟨1, _⟩ => rfl)

/-- The same at a row of the second. -/
theorem cat0_right {α : Type} {M m₁ m₂ n : ℕ} (x : (⟨2, ![m₁, n]⟩ : Shape).Idx → α) (y : (⟨2, ![m₂, n]⟩ : Shape).Idx → α)
    (h : Shape.Concatenates [⟨2, ![m₁, n]⟩, ⟨2, ![m₂, n]⟩] ⟨2, ![M, n]⟩ 0) (a : Fin M) (l : Fin n) (a' : Fin m₂) (ha : a'.val + m₁ = a.val) :
    concatenate ⟨2, ![M, n]⟩ 0 [⟨⟨2, ![m₁, n]⟩, x⟩, ⟨⟨2, ![m₂, n]⟩, y⟩] h (ix2 a l) = y (ix2 a' l) :=
  concatenate_pair_apply_right (t := ⟨2, ![M, n]⟩) (s₁ := ⟨2, ![m₁, n]⟩) (s₂ := ⟨2, ![m₂, n]⟩) 0 x y h (ix2 a l) rfl rfl (ix2 a' l)
    (fun b hb => match b, hb with | ⟨0, _⟩, hb => absurd rfl hb | ⟨1, _⟩, _ => rfl) ha

/-- Two arrays of two axes side by side, at a column of the first. -/
theorem cat1_left {α : Type} {N n₁ n₂ m : ℕ} (x : (⟨2, ![m, n₁]⟩ : Shape).Idx → α) (y : (⟨2, ![m, n₂]⟩ : Shape).Idx → α)
    (h : Shape.Concatenates [⟨2, ![m, n₁]⟩, ⟨2, ![m, n₂]⟩] ⟨2, ![m, N]⟩ 1) (a : Fin m) (l : Fin N) (l' : Fin n₁) (hl : l'.val = l.val) :
    concatenate ⟨2, ![m, N]⟩ 1 [⟨⟨2, ![m, n₁]⟩, x⟩, ⟨⟨2, ![m, n₂]⟩, y⟩] h (ix2 a l) = x (ix2 a l') :=
  concatenate_pair_apply_left (t := ⟨2, ![m, N]⟩) (s₁ := ⟨2, ![m, n₁]⟩) (s₂ := ⟨2, ![m, n₂]⟩) 1 x y h (ix2 a l) rfl (ix2 a l')
    (fun b => match b with | ⟨0, _⟩ => rfl | ⟨1, _⟩ => hl)

/-- The same at a column of the second. -/
theorem cat1_right {α : Type} {N n₁ n₂ m : ℕ} (x : (⟨2, ![m, n₁]⟩ : Shape).Idx → α) (y : (⟨2, ![m, n₂]⟩ : Shape).Idx → α)
    (h : Shape.Concatenates [⟨2, ![m, n₁]⟩, ⟨2, ![m, n₂]⟩] ⟨2, ![m, N]⟩ 1) (a : Fin m) (l : Fin N) (l' : Fin n₂) (hl : l'.val + n₁ = l.val) :
    concatenate ⟨2, ![m, N]⟩ 1 [⟨⟨2, ![m, n₁]⟩, x⟩, ⟨⟨2, ![m, n₂]⟩, y⟩] h (ix2 a l) = y (ix2 a l') :=
  concatenate_pair_apply_right (t := ⟨2, ![m, N]⟩) (s₁ := ⟨2, ![m, n₁]⟩) (s₂ := ⟨2, ![m, n₂]⟩) 1 x y h (ix2 a l) rfl rfl (ix2 a l')
    (fun b hb => match b, hb with | ⟨0, _⟩, _ => rfl | ⟨1, _⟩, hb => absurd rfl hb) hl

/-- A block of codes with its middle axes swapped, four by four. -/
theorem swap_apply (x : IVec S8x4x128 8) (h1 : S8x4x128.ShapeCasts S8x4x128) (h2 : S8x4x128.ShapeCasts S32x128)
    (h3 : S32x128.ShapeCasts S2x4x4x128) (h4 : S2x4x4x128.Transposes [0, 2, 1, 3] S2x4x4x128) (h5 : S2x4x4x128.ShapeCasts S32x128)
    (p : Fin 32) (l : Fin 128) :
    shapeCast S32x128 (transpose S2x4x4x128 [0, 2, 1, 3] (shapeCast S2x4x4x128 (shapeCast S32x128 (shapeCast S8x4x128 x h1) h2) h3) h4) h5 (ix2 p l)
      = x (ix3 ⟨4 * (p.val / 16) + p.val % 4, by omega⟩ ⟨p.val / 4 % 4, by omega⟩ l) := by
  rw [shapeCast_apply _ h5 (ix2 p l) (ix4 ⟨p.val / 16, by omega⟩ ⟨p.val / 4 % 4, by omega⟩ ⟨p.val % 4, by omega⟩ l) (by
    rw [Shape.rowMajor_val_four, Shape.rowMajor_val_two]
    show ((p.val / 16 * 4 + p.val / 4 % 4) * 4 + p.val % 4) * 128 + l.val = p.val * 128 + l.val
    omega)]
  rw [transpose_apply _ _ h4 (ix4 ⟨p.val / 16, by omega⟩ ⟨p.val / 4 % 4, by omega⟩ ⟨p.val % 4, by omega⟩ l) (ix4 ⟨p.val / 16, by omega⟩ ⟨p.val % 4, by omega⟩ ⟨p.val / 4 % 4, by omega⟩ l)
    (fun c => match c with | ⟨0, _⟩ => rfl | ⟨1, _⟩ => rfl | ⟨2, _⟩ => rfl | ⟨3, _⟩ => rfl)]
  rw [shapeCast_apply _ h3 _ (ix2 ⟨16 * (p.val / 16) + 4 * (p.val % 4) + p.val / 4 % 4, by omega⟩ l) (by
    rw [Shape.rowMajor_val_four, Shape.rowMajor_val_two]
    show (16 * (p.val / 16) + 4 * (p.val % 4) + p.val / 4 % 4) * 128 + l.val = ((p.val / 16 * 4 + p.val % 4) * 4 + p.val / 4 % 4) * 128 + l.val
    omega)]
  rw [shapeCast_apply _ h2 _ (ix3 ⟨4 * (p.val / 16) + p.val % 4, by omega⟩ ⟨p.val / 4 % 4, by omega⟩ l) (by
    rw [Shape.rowMajor_val_three, Shape.rowMajor_val_two]
    show ((4 * (p.val / 16) + p.val % 4) * 4 + p.val / 4 % 4) * 128 + l.val = (16 * (p.val / 16) + 4 * (p.val % 4) + p.val / 4 % 4) * 128 + l.val
    omega)]
  exact shapeCast_apply _ h1 _ _ rfl

/-- Bit `q` of a packed word is bit `q % 8` of the code of its token `q / 8`. -/
theorem words_bit (x : IVec S8x4x128 8) (u : Fin 1) (r : Fin 8) (l : Fin 128) (q : ℕ) (hq : q < 32) :
    (words x (ix3 u r l)).getLsbD q
      = (x (ix3 ⟨4 * (r.val / 4) + q / 8, by omega⟩ ⟨r.val % 4, by omega⟩ l)).getLsbD (q % 8) := by
  unfold words
  rw [shapeCast_ab_1ab_apply, bitcast_8_32_getLsbD_ix2 _ _ r l q hq ⟨4 * r.val + q / 8, by omega⟩ rfl, swap_apply]
  congr 2
  funext d
  match d with
  | ⟨0, _⟩ => exact Fin.ext (by show 4 * ((4 * r.val + q / 8) / 16) + (4 * r.val + q / 8) % 4 = 4 * (r.val / 4) + q / 8; omega)
  | ⟨1, _⟩ => exact Fin.ext (by show (4 * r.val + q / 8) / 4 % 4 = r.val % 4; omega)
  | ⟨2, _⟩ => rfl

/-- A code of an unpacked row is one byte of the word it was packed in. -/
theorem unpack_bits (y : IVec S8x128 32) (h : S8x128.Bitcasts 32 S32x128 8) (a : Fin 32) (l : Fin 128) (q : ℕ) (hq : q < 8) :
    (bitcast S32x128 8 y h (ix2 a l)).getLsbD q = (y (ix2 ⟨a.val / 4, by omega⟩ l)).getLsbD (8 * (a.val % 4) + q) := by
  rw [bitcast_getLsbD y h _ q hq (by decide)]
  have e : (S32x128.row (ix2 a l) * 8 + q) % 32 = 8 * (a.val % 4) + q := by show (a.val * 8 + q) % 32 = _; omega
  rw [e]
  congr 2
  funext c
  match c with
  | ⟨0, _⟩ => exact Fin.ext ((h.srcIdx_row _ _ _ ⟨0, Nat.zero_lt_two⟩ rfl).trans (by show (a.val * 8 + q) / 32 = a.val / 4; omega))
  | ⟨1, _⟩ => exact Fin.ext (h.srcIdx_other _ _ _ ⟨1, Nat.one_lt_two⟩ (by show ¬ 1 + 2 = 2; omega))

/-- Codes by token, head and lane. -/
abbrev Codes : Type := ℕ → ℕ → ℕ → BitVec 8

/-- The words `W` hold the codes `c`. -/
def Packed {Qd T : ℕ} (W : (⟨3, ![Qd, T, 128]⟩ : Shape).Idx → BitVec 32) (c : Codes) : Prop :=
  ∀ (i : Fin Qd) (t : Fin T) (l : Fin 128) (q : ℕ), q < 32 →
    (W (ix3 i t l)).getLsbD q = (c (4 * (t.val / 4) + q / 8) (4 * i.val + t.val % 4) l.val).getLsbD (q % 8)

variable {F : FTy → Type} [FloatOps F]

/-- Sixty-four tokens of one head, read as floats. -/
def headR (c : Codes) (head first : ℕ) : FVec F S64x128 .fp8e4m3 :=
  fun i => FloatOps.ofBits .fp8e4m3 (c (first + (i 0).val) head (i 1).val)

/-- Thirty-two tokens read back from packed words. -/
theorem unpack_eq (y : IVec S1x8x128 32) (c : Codes) (head first : ℕ) (hf : 4 ∣ first)
    (hy : ∀ (r : Fin 8) (l : Fin 128) (q : ℕ), q < 32 →
      (y (ix3 (0 : Fin 1) r l)).getLsbD q = (c (first + 4 * r.val + q / 8) head l.val).getLsbD (q % 8))
    (a : Fin 32) (l : Fin 128) :
    unpack (F := F) y (ix2 a l) = FloatOps.ofBits .fp8e4m3 (c (first + a.val) head l.val) := by
  unfold unpack bitcastToFloat
  congr 1
  apply BitVec.eq_of_getLsbD_eq
  intro q hq
  rw [unpack_bits _ _ _ _ _ hq, shapeCast_1ab_ab_apply, hy _ _ _ (by omega)]
  congr 2
  · show first + 4 * (a.val / 4) + (8 * (a.val % 4) + q) / 8 = first + a.val
    omega
  · omega

/-- Sixty-four tokens read back from packed words by two strided loads. -/
theorem rows64_eq {Qd T : ℕ} (W : (⟨3, ![Qd, T, 128]⟩ : Shape).Idx → BitVec 32) (c : Codes) (hW : Packed W c)
    (head first : ℕ) (hH : head / 4 < Qd) (hT : first + 64 ≤ T) (hf : 4 ∣ first) :
    rows64 (F := F)
      (fun j => W ((⟨![head / 4, first + head % 4, 0], S1x8x128.size, ![1, 4, 1], inbS hH (by omega)⟩ : LoadRect ⟨3, ![Qd, T, 128]⟩).idx j))
      (fun j => W ((⟨![head / 4, first + 32 + head % 4, 0], S1x8x128.size, ![1, 4, 1], inbS hH (by omega)⟩ : LoadRect ⟨3, ![Qd, T, 128]⟩).idx j))
      = headR c head first := by
  have key : ∀ (f : ℕ) (hfT : f + 32 ≤ T) (hf : 4 ∣ f) (r : Fin 8) (l : Fin 128) (q : ℕ), q < 32 →
      (W ((⟨![head / 4, f + head % 4, 0], S1x8x128.size, ![1, 4, 1], inbS hH (by omega)⟩ : LoadRect ⟨3, ![Qd, T, 128]⟩).idx (ix3 (0 : Fin 1) r l))).getLsbD q
        = (c (f + 4 * r.val + q / 8) head l.val).getLsbD (q % 8) := by
    intro f hfT hf r l q hq
    have e : (⟨![head / 4, f + head % 4, 0], S1x8x128.size, ![1, 4, 1], inbS hH (by omega)⟩ : LoadRect ⟨3, ![Qd, T, 128]⟩).idx (ix3 (0 : Fin 1) r l)
        = ix3 (⟨head / 4, hH⟩ : Fin Qd) (⟨f + head % 4 + 4 * r.val, by omega⟩ : Fin T) l := by
      funext d
      match d with
      | ⟨0, _⟩ => exact Fin.ext (by show head / 4 + 1 * 0 = head / 4; omega)
      | ⟨1, _⟩ => exact Fin.ext (by show f + head % 4 + 4 * r.val = f + head % 4 + 4 * r.val; rfl)
      | ⟨2, _⟩ => exact Fin.ext (by show 0 + 1 * l.val = l.val; omega)
    rw [e, hW _ _ _ _ hq]
    congr 2
    · show 4 * ((f + head % 4 + 4 * r.val) / 4) + q / 8 = f + 4 * r.val + q / 8
      omega
    · show 4 * (head / 4) + (f + head % 4 + 4 * r.val) % 4 = head
      omega
  have main : ∀ (a : Fin 64) (l : Fin 128), rows64 (F := F)
      (fun j => W ((⟨![head / 4, first + head % 4, 0], S1x8x128.size, ![1, 4, 1], inbS hH (by omega)⟩ : LoadRect ⟨3, ![Qd, T, 128]⟩).idx j))
      (fun j => W ((⟨![head / 4, first + 32 + head % 4, 0], S1x8x128.size, ![1, 4, 1], inbS hH (by omega)⟩ : LoadRect ⟨3, ![Qd, T, 128]⟩).idx j))
      (ix2 a l) = headR c head first (ix2 a l) := by
    intro a l
    unfold rows64
    by_cases h : a.val < 32
    · refine (cat0_left _ _ _ a l ⟨a.val, h⟩ rfl).trans ?_
      exact unpack_eq _ c head first hf (key first (by omega) hf) ⟨a.val, h⟩ l
    · have h' := a.isLt
      refine (cat0_right _ _ _ a l ⟨a.val - 32, by omega⟩ (by show a.val - 32 + 32 = a.val; omega)).trans ?_
      rw [unpack_eq _ c head (first + 32) (by omega) (key (first + 32) (by omega) (by omega)) ⟨a.val - 32, by omega⟩ l]
      show FloatOps.ofBits .fp8e4m3 (c (first + 32 + (a.val - 32)) head l.val) = FloatOps.ofBits .fp8e4m3 (c (first + a.val) head l.val)
      rw [show first + 32 + (a.val - 32) = first + a.val by omega]
  funext i
  rw [eq_ix2 i]
  exact main _ _

end Win

end
-- ==== Proof.Spec.lean ====
/-
  What the body computes, as functions of one block's inputs.

  `Inp` collects what a grid point sees: the scales, the block's codes, and the codes of the window of keys and
  values before the block. `scoreT`, `p1T`, `p2T` and `outT` are the scores, the weights' codes and the results
  that the body leaves in its buffers, written with the operations of the body itself.
-/
module

public import proofs.«01_k».proof.Proof.Words

@[expose] public section

noncomputable section

namespace Win

open Idealize.ShloMosaic hiding ix1 ix2 ix3 ix4 ix5 eq_ix1 eq_ix2 eq_ix3 eq_ix4 eq_ix5
open Idealize.ShloMosaic.ValueIdx

/-- An array of codes by natural indices, zero outside. -/
def code3 {T H : ℕ} (x : (⟨3, ![T, H, 128]⟩ : Shape).Idx → BitVec 8) : Codes := fun t h l =>
  if ht : t < T then if hh : h < H then if hl : l < 128 then x (ix3 ⟨t, ht⟩ ⟨h, hh⟩ ⟨l, hl⟩) else 0 else 0 else 0

/-- A code inside the array. -/
theorem code3_of {T H : ℕ} (x : (⟨3, ![T, H, 128]⟩ : Shape).Idx → BitVec 8) {t h l : ℕ} (ht : t < T) (hh : h < H) (hl : l < 128) :
    code3 x t h l = x (ix3 ⟨t, ht⟩ ⟨h, hh⟩ ⟨l, hl⟩) := by
  unfold code3; rw [dif_pos ht, dif_pos hh, dif_pos hl]

/-- Packed words know only the codes of the tokens and heads they have. -/
theorem Packed.congr {Qd T : ℕ} {W : (⟨3, ![Qd, T, 128]⟩ : Shape).Idx → BitVec 32} {c c' : Codes} (hT : 4 ∣ T) (h : Packed W c)
    (e : ∀ t < T, ∀ h < 4 * Qd, ∀ l < 128, c t h l = c' t h l) : Packed W c' := by
  intro i t l q hq
  rw [h i t l q hq, e _ (by omega) _ (by omega) _ l.isLt]

variable {F : FTy → Type} [FloatOps F]

variable (F) in
/-- What one grid point sees. -/
structure Inp where
  qs : S56.Idx → F .f32
  ks : S8.Idx → F .f32
  ps : S1.Idx → F .f32
  q : S256x56x128.Idx → BitVec 8
  k : S256x8x128.Idx → BitVec 8
  v : S256x8x128.Idx → BitVec 8
  vs : S8x128.Idx → F .f32
  kp : Codes
  vp : Codes

/-- The codes of a block's windows: the window before it, then its own two. -/
def window (prev : Codes) (x : S256x8x128.Idx → BitVec 8) (n : ℕ) : Codes :=
  if n = 0 then prev else fun t => code3 x (t + 128 * (n - 1))

variable (I : Inp F)

/-- The query rows of one head in one window. -/
def qrow (n : ℕ) (head : ℕ) : FVec F S64x256 .fp8e4m3 :=
  beside (headR (code3 I.q) head (n * 128)) (headR (code3 I.q) head (n * 128 + 64))

/-- The query rows of one group in one window. -/
def qall (n g : ℕ) : FVec F S448x256 .fp8e4m3 :=
  stack7 (qrow I n (g * 7 + 0)) (qrow I n (g * 7 + 1)) (qrow I n (g * 7 + 2)) (qrow I n (g * 7 + 3)) (qrow I n (g * 7 + 4))
    (qrow I n (g * 7 + 5)) (qrow I n (g * 7 + 6))

/-- One group's rows of keys or values, arranged for the wide product. -/
def wide (prev : Codes) (x : S256x8x128.Idx → BitVec 8) (n g : ℕ) : FVec F S256x256 .fp8e4m3 :=
  stack (diag (headR (window prev x n) g 64) (headR (window prev x (n + 1)) g 0))
    (diag (headR (window prev x (n + 1)) g 0) (headR (window prev x (n + 1)) g 64))

/-- One group's rows of keys or values, arranged for the narrow product. -/
def narrow (prev : Codes) (x : S256x8x128.Idx → BitVec 8) (n g : ℕ) : FVec F S128x256 .fp8e4m3 :=
  diag (headR (window prev x n) g 0) (headR (window prev x n) g 64)

/-- The scores of one group in one window. -/
def scoreT (n g : ℕ) : S448x256.Idx → F .f32 := fun j =>
  if h : (j 1).val < 128 then
    scoreA (scores1 (qall I n g) (wide I.kp I.k n g)) ⟨(j 0).val / 64, by have : (j 0).val < 448 := (j 0).isLt; omega⟩
      (ix3 (0 : Fin 1) (⟨(j 0).val % 64, by omega⟩ : Fin 64) (⟨(j 1).val, h⟩ : Fin 128))
  else
    scoreB (scores1 (qall I n g) (wide I.kp I.k n g)) (scores2 (qall I n g) (narrow I.kp I.k n g))
      ⟨(j 0).val / 64, by have : (j 0).val < 448 := (j 0).isLt; omega⟩
      (ix3 (0 : Fin 1) (⟨(j 0).val % 64, by omega⟩ : Fin 64) (⟨(j 1).val - 128, by have : (j 1).val < 256 := (j 1).isLt; omega⟩ : Fin 128))

/-- The scores of one head in one window. -/
def srow (n g : ℕ) (r : Fin 7) : FVec F S1x64x256 .f32 := fun j =>
  scoreT I n g (ix2 (⟨r.val * 64 + (j 1).val, by have : (j 1).val < 64 := (j 1).isLt; omega⟩ : Fin 448) (j 2 : Fin 256))

/-- The codes of the clipped, scaled weights of one head in one window. -/
def wrow (n : ℕ) (g : Fin 8) (r : Fin 7) : FVec F S64x256 .fp8e4m3 :=
  weights (invps (I.ps (ix1 (0 : Fin 1)))) (I.qs (ix1 (⟨g.val * 7 + r.val, by omega⟩ : Fin 56))) (I.ks (ix1 g)) (srow I n g r)

/-- The weights' codes of one group in one window, as the wide product takes them. -/
def p1T (n : ℕ) (g : Fin 8) : S448x256.Idx → F .fp8e4m3 := fun j =>
  if h : (j 1).val < 128 then
    codesA (wrow I n g ⟨(j 0).val / 64, by have : (j 0).val < 448 := (j 0).isLt; omega⟩)
      (ix3 (0 : Fin 1) (⟨(j 0).val % 64, by omega⟩ : Fin 64) (⟨(j 1).val, h⟩ : Fin 128))
  else
    codesB (wrow I n g ⟨(j 0).val / 64, by have : (j 0).val < 448 := (j 0).isLt; omega⟩)
      (ix3 (0 : Fin 1) (⟨(j 0).val % 64, by omega⟩ : Fin 64) (⟨(j 1).val - 128, by have : (j 1).val < 256 := (j 1).isLt; omega⟩ : Fin 128))

/-- The weights' codes of one group in one window, as the narrow product takes them. -/
def p2T (n : ℕ) (g : Fin 8) : S448x128.Idx → F .fp8e4m3 := fun j =>
  codesC (wrow I n g ⟨(j 0).val / 64, by have : (j 0).val < 448 := (j 0).isLt; omega⟩)
    (ix3 (0 : Fin 1) (⟨(j 0).val % 64, by omega⟩ : Fin 64) (j 1 : Fin 128))

/-- One head's results in one half window. -/
def outR (n : ℕ) (g : Fin 8) (r : Fin 7) (c : Fin 2) : FVec F S64x128 .bf16 :=
  outBlock (sums (fun j => p1T I n g (ix2 (j 1 : Fin 448) (j 2 : Fin 256))) (fun j => p2T I n g (ix2 (j 1 : Fin 448) (j 2 : Fin 128)))
      (wide I.vp I.v n g) (narrow I.vp I.v n g))
    (outscale (I.ps (ix1 (0 : Fin 1))) (fun j => I.vs (ix2 g (j 1 : Fin 128)))) r c

/-- The block's results. -/
def outT : S256x7168.Idx → F .bf16 := fun j =>
  outR I ((j 0).val / 128) ⟨(j 1).val / 128 / 7, by have : (j 1).val < 7168 := (j 1).isLt; omega⟩ ⟨(j 1).val / 128 % 7, by omega⟩
    ⟨(j 0).val / 64 % 2, by omega⟩ (ix2 (⟨(j 0).val % 64, by omega⟩ : Fin 64) (⟨(j 1).val % 128, by omega⟩ : Fin 128))

end Win

end
-- ==== Proof.Hoare.lean ====
/-
  Triples for the kernel's body over plain values.

  `Mem` holds what each of the body's buffers reads; `Own` owns all of them at such contents. `Tr σ p Q` says
  that `p`, run from the contents `σ`, ends with an answer and contents in `Q`. A `Cell` is a memref whose
  elements are part of `Mem`: loads read it, stores replace part of it.
-/
module

public import proofs.«01_k».proof.Proof.Struct
public import Idealize.ShloMosaic.Lib.Memref
public import Idealize.ShloMosaic.Lib.Tactic
public import Idealize.ShloMosaic.Rules.Step

@[expose] public section

noncomputable section

namespace Win

open Idealize.ShloMosaic
open Idealize.SL Idealize.SL.RA Idealize.SL.Sem
open Idealize.SL.BI (sProp)
open scoped Idealize.SL.BI
open Idealize.SL.BI.BIBase Idealize.SL.BI.Laws Idealize.SL.ProofMode

/-- What each buffer of the body reads. -/
structure Mem (F : FTy → Type) where
  qs : S56.Idx → Elt F .f32
  ks : S8.Idx → Elt F .f32
  ps : S1.Idx → Elt F .f32
  q : S256x56x128.Idx → Elt F .i8
  k : S256x8x128.Idx → Elt F .i8
  v : S256x8x128.Idx → Elt F .i8
  vs : S8x128.Idx → Elt F .f32
  o : S256x7168.Idx → Elt F .bf16
  wq : S14x256x128.Idx → Elt F .i32
  wk : S3x2x128x128.Idx → Elt F .i32
  wv : S3x2x128x128.Idx → Elt F .i32
  sa : S2x448x256.Idx → Elt F .f32
  p1 : S2x448x256.Idx → Elt F .fp8e4m3
  p2 : S2x448x128.Idx → Elt F .fp8e4m3

section

variable {nD : Nat} {τ : Topo} {sig : RefSig} {F : FTy → Type} {U : Type} [URA U] {Λ : Labels}

local notation "𝕄" => MT nD τ sig Unit (Elt F) ℕ U ℕ

variable (d : Dev nD) (R : Refs sig)

/-- All the body's buffers owned at contents `σ`. -/
def Own (σ : Mem F) : sProp 𝕄 :=
  iprop(owns (d, Proc.tc) R.qs fullShare σ.qs ∗ owns (d, Proc.tc) R.ks fullShare σ.ks ∗ owns (d, Proc.tc) R.ps fullShare σ.ps
    ∗ owns (d, Proc.tc) R.q fullShare σ.q ∗ owns (d, Proc.tc) R.k fullShare σ.k ∗ owns (d, Proc.tc) R.v fullShare σ.v
    ∗ owns (d, Proc.tc) R.vs fullShare σ.vs ∗ owns (d, Proc.tc) R.o fullShare σ.o ∗ owns (d, Proc.tc) R.wq fullShare σ.wq
    ∗ owns (d, Proc.tc) R.wk fullShare σ.wk ∗ owns (d, Proc.tc) R.wv fullShare σ.wv ∗ owns (d, Proc.tc) R.sa fullShare σ.sa
    ∗ owns (d, Proc.tc) R.p1 fullShare σ.p1 ∗ owns (d, Proc.tc) R.p2 fullShare σ.p2)

/-- A memref whose elements are part of the contents. -/
structure Cell {sp : Space} {s : Shape} {e : EltTy} (m : Memref sig .tc sp s e) (get : Mem F → s.Idx → Elt F e)
    (put : Mem F → (s.Idx → Elt F e) → Mem F) : Prop where
  split : ∀ σ, (Own d R σ : sProp 𝕄)
    ⊢ iprop(owns (d, Proc.tc) m fullShare (get σ) ∗ (∀ X, owns (d, Proc.tc) m fullShare X -∗ Own d R (put σ X)))
  put_get : ∀ σ, put σ (get σ) = σ

/-- The queries' scales are part of the contents. -/
theorem cell_qs : Cell (U := U) (nD := nD) (τ := τ) d R R.qs (fun σ : Mem F => σ.qs) (fun σ X => { σ with qs := X }) := by
  refine ⟨fun σ => ?_, fun _ => rfl⟩
  unfold Own
  iintro ⟨H1, H2, H3, H4, H5, H6, H7, H8, H9, H10, H11, H12, H13, H14⟩
  isplitl [H1]; · iexact H1
  iintro %X H1
  sl_close

/-- The keys' scales are part of the contents. -/
theorem cell_ks : Cell (U := U) (nD := nD) (τ := τ) d R R.ks (fun σ : Mem F => σ.ks) (fun σ X => { σ with ks := X }) := by
  refine ⟨fun σ => ?_, fun _ => rfl⟩
  unfold Own
  iintro ⟨H1, H2, H3, H4, H5, H6, H7, H8, H9, H10, H11, H12, H13, H14⟩
  isplitl [H2]; · iexact H2
  iintro %X H2
  sl_close

/-- The weights' scale are part of the contents. -/
theorem cell_ps : Cell (U := U) (nD := nD) (τ := τ) d R R.ps (fun σ : Mem F => σ.ps) (fun σ X => { σ with ps := X }) := by
  refine ⟨fun σ => ?_, fun _ => rfl⟩
  unfold Own
  iintro ⟨H1, H2, H3, H4, H5, H6, H7, H8, H9, H10, H11, H12, H13, H14⟩
  isplitl [H3]; · iexact H3
  iintro %X H3
  sl_close

/-- The queries are part of the contents. -/
theorem cell_q : Cell (U := U) (nD := nD) (τ := τ) d R R.q (fun σ : Mem F => σ.q) (fun σ X => { σ with q := X }) := by
  refine ⟨fun σ => ?_, fun _ => rfl⟩
  unfold Own
  iintro ⟨H1, H2, H3, H4, H5, H6, H7, H8, H9, H10, H11, H12, H13, H14⟩
  isplitl [H4]; · iexact H4
  iintro %X H4
  sl_close

/-- The keys are part of the contents. -/
theorem cell_k : Cell (U := U) (nD := nD) (τ := τ) d R R.k (fun σ : Mem F => σ.k) (fun σ X => { σ with k := X }) := by
  refine ⟨fun σ => ?_, fun _ => rfl⟩
  unfold Own
  iintro ⟨H1, H2, H3, H4, H5, H6, H7, H8, H9, H10, H11, H12, H13, H14⟩
  isplitl [H5]; · iexact H5
  iintro %X H5
  sl_close

/-- The values are part of the contents. -/
theorem cell_v : Cell (U := U) (nD := nD) (τ := τ) d R R.v (fun σ : Mem F => σ.v) (fun σ X => { σ with v := X }) := by
  refine ⟨fun σ => ?_, fun _ => rfl⟩
  unfold Own
  iintro ⟨H1, H2, H3, H4, H5, H6, H7, H8, H9, H10, H11, H12, H13, H14⟩
  isplitl [H6]; · iexact H6
  iintro %X H6
  sl_close

/-- The values' scales are part of the contents. -/
theorem cell_vs : Cell (U := U) (nD := nD) (τ := τ) d R R.vs (fun σ : Mem F => σ.vs) (fun σ X => { σ with vs := X }) := by
  refine ⟨fun σ => ?_, fun _ => rfl⟩
  unfold Own
  iintro ⟨H1, H2, H3, H4, H5, H6, H7, H8, H9, H10, H11, H12, H13, H14⟩
  isplitl [H7]; · iexact H7
  iintro %X H7
  sl_close

/-- The results are part of the contents. -/
theorem cell_o : Cell (U := U) (nD := nD) (τ := τ) d R R.o (fun σ : Mem F => σ.o) (fun σ X => { σ with o := X }) := by
  refine ⟨fun σ => ?_, fun _ => rfl⟩
  unfold Own
  iintro ⟨H1, H2, H3, H4, H5, H6, H7, H8, H9, H10, H11, H12, H13, H14⟩
  isplitl [H8]; · iexact H8
  iintro %X H8
  sl_close

/-- The packed queries are part of the contents. -/
theorem cell_wq : Cell (U := U) (nD := nD) (τ := τ) d R R.wq (fun σ : Mem F => σ.wq) (fun σ X => { σ with wq := X }) := by
  refine ⟨fun σ => ?_, fun _ => rfl⟩
  unfold Own
  iintro ⟨H1, H2, H3, H4, H5, H6, H7, H8, H9, H10, H11, H12, H13, H14⟩
  isplitl [H9]; · iexact H9
  iintro %X H9
  sl_close

/-- The packed keys are part of the contents. -/
theorem cell_wk : Cell (U := U) (nD := nD) (τ := τ) d R R.wk (fun σ : Mem F => σ.wk) (fun σ X => { σ with wk := X }) := by
  refine ⟨fun σ => ?_, fun _ => rfl⟩
  unfold Own
  iintro ⟨H1, H2, H3, H4, H5, H6, H7, H8, H9, H10, H11, H12, H13, H14⟩
  isplitl [H10]; · iexact H10
  iintro %X H10
  sl_close

/-- The packed values are part of the contents. -/
theorem cell_wv : Cell (U := U) (nD := nD) (τ := τ) d R R.wv (fun σ : Mem F => σ.wv) (fun σ X => { σ with wv := X }) := by
  refine ⟨fun σ => ?_, fun _ => rfl⟩
  unfold Own
  iintro ⟨H1, H2, H3, H4, H5, H6, H7, H8, H9, H10, H11, H12, H13, H14⟩
  isplitl [H11]; · iexact H11
  iintro %X H11
  sl_close

/-- The scores are part of the contents. -/
theorem cell_sa : Cell (U := U) (nD := nD) (τ := τ) d R R.sa (fun σ : Mem F => σ.sa) (fun σ X => { σ with sa := X }) := by
  refine ⟨fun σ => ?_, fun _ => rfl⟩
  unfold Own
  iintro ⟨H1, H2, H3, H4, H5, H6, H7, H8, H9, H10, H11, H12, H13, H14⟩
  isplitl [H12]; · iexact H12
  iintro %X H12
  sl_close

/-- The wide weights are part of the contents. -/
theorem cell_p1 : Cell (U := U) (nD := nD) (τ := τ) d R R.p1 (fun σ : Mem F => σ.p1) (fun σ X => { σ with p1 := X }) := by
  refine ⟨fun σ => ?_, fun _ => rfl⟩
  unfold Own
  iintro ⟨H1, H2, H3, H4, H5, H6, H7, H8, H9, H10, H11, H12, H13, H14⟩
  isplitl [H13]; · iexact H13
  iintro %X H13
  sl_close

/-- The narrow weights are part of the contents. -/
theorem cell_p2 : Cell (U := U) (nD := nD) (τ := τ) d R R.p2 (fun σ : Mem F => σ.p2) (fun σ X => { σ with p2 := X }) := by
  refine ⟨fun σ => ?_, fun _ => rfl⟩
  unfold Own
  iintro ⟨H1, H2, H3, H4, H5, H6, H7, H8, H9, H10, H11, H12, H13, H14⟩
  isplitl [H14]; · iexact H14
  iintro %X H14
  sl_close

variable {d R}

/-- A load reads the contents. -/
theorem owns_read {sp : Space} {s : Shape} {e : EltTy} (m : Memref sig .tc sp s e) (X : s.Idx → Elt F e) :
    (owns (d, Proc.tc) m fullShare X : sProp 𝕄) ⊢ iprop(∃ f, ⌜m.view.read (Elt F) f = X⌝ ∗ (m.view.loc (d, Proc.tc) ↦[m.view.set]{fullShare} f)) := .rfl

/-- Contents that read as given are owned as given. -/
theorem owns_of {sp : Space} {s : Shape} {e : EltTy} (m : Memref sig .tc sp s e) (X : s.Idx → Elt F e) (f : m.view.ty.Contents (Elt F))
    (h : m.view.read (Elt F) f = X) :
    (m.view.loc (d, Proc.tc) ↦[m.view.set]{fullShare} f : sProp 𝕄) ⊢ owns (d, Proc.tc) m fullShare X := by
  subst h; exact owns_intro (d, Proc.tc) m fullShare f

/-- The contents of a memref squeezed of its axes of extent one. -/
theorem owns_squeeze {sp : Space} {s s' : Shape} {e : EltTy} (m : Memref sig .tc sp s e) (h : s.Squeezes s') (X : s.Idx → Elt F e) :
    (owns (d, Proc.tc) m fullShare X : sProp 𝕄)
      ⊢ owns (d, Proc.tc) (m.squeeze s' h) fullShare (fun i => X (Shape.reshapeEquiv h.numel_eq i)) := by
  iintro H
  ihave H' := (owns_read m X) $$ H
  icases H' with ⟨%f, %hf, H⟩
  iapply (owns_of (m.squeeze s' h) _ f (by subst hf; rfl))
  rw [show (m.squeeze s' h).view.set = m.view.set from View.set_reshape _ _]
  iexact H

/-- The contents of a memref before its axes of extent one are dropped. -/
theorem owns_unsqueeze {sp : Space} {s s' : Shape} {e : EltTy} (m : Memref sig .tc sp s e) (h : s.Squeezes s') (X : s'.Idx → Elt F e) :
    (owns (d, Proc.tc) (m.squeeze s' h) fullShare X : sProp 𝕄)
      ⊢ owns (d, Proc.tc) m fullShare (fun i => X ((Shape.reshapeEquiv h.numel_eq).symm i)) := by
  iintro H
  ihave H' := (owns_read (m.squeeze s' h) X) $$ H
  icases H' with ⟨%f, %hf, H⟩
  iapply (owns_of m _ f (by
    subst hf; funext i
    show _ = m.view.read (Elt F) f (Shape.reshapeEquiv h.numel_eq ((Shape.reshapeEquiv h.numel_eq).symm i))
    rw [Equiv.apply_symm_apply]))
  rw [show (m.squeeze s' h).view.set = m.view.set from View.set_reshape _ _]
  iexact H

variable (d R)

/-- A slice of a cell is a cell. -/
theorem Cell.slice {sp : Space} {s : Shape} {e : EltTy} {m : Memref sig .tc sp s e} {get : Mem F → s.Idx → Elt F e}
    {put : Mem F → (s.Idx → Elt F e) → Mem F} (hc : Cell (U := U) (nD := nD) (τ := τ) d R m get put) (r : Rect s) (hr : ∀ a, r.stride a = 1) :
    Cell (U := U) (nD := nD) (τ := τ) d R (m.slice r hr) (fun σ i => get σ (r.emb i)) (fun σ X => put σ (r.overlay (get σ) X)) := by
  refine ⟨fun σ => ?_, fun σ => ?_⟩
  · iintro H
    ihave H' := (hc.split σ) $$ H
    icases H' with ⟨H, Hk⟩
    ihave H' := (owns_slice_split (d, Proc.tc) m fullShare r hr (get σ)) $$ H
    icases H' with ⟨Hs, %f, %hf, Hr⟩
    isplitl [Hs]; · iexact Hs
    iintro %X Hs
    iapply Hk
    rw [← hf]
    iapply (owns_slice_join (d, Proc.tc) m fullShare r hr X f)
    isplitl [Hs]; · iexact Hs
    iexact Hr
  · conv_rhs => rw [← hc.put_get σ]
    congr 1
    funext j
    by_cases hj : j ∈ r.set
    · obtain ⟨i, rfl⟩ := r.exists_idx_of_mem hj
      exact Rect.overlay_emb r _ _ i
    · exact Rect.overlay_of_not_mem _ _ _ hj

/-- A squeezed cell is a cell. -/
theorem Cell.squeeze {sp : Space} {s s' : Shape} {e : EltTy} {m : Memref sig .tc sp s e} {get : Mem F → s.Idx → Elt F e}
    {put : Mem F → (s.Idx → Elt F e) → Mem F} (hc : Cell (U := U) (nD := nD) (τ := τ) d R m get put) (h : s.Squeezes s') :
    Cell (U := U) (nD := nD) (τ := τ) d R (m.squeeze s' h) (fun σ i => get σ (Shape.reshapeEquiv h.numel_eq i))
      (fun σ X => put σ (fun i => X ((Shape.reshapeEquiv h.numel_eq).symm i))) := by
  refine ⟨fun σ => ?_, fun σ => ?_⟩
  · iintro H
    ihave H' := (hc.split σ) $$ H
    icases H' with ⟨H, Hk⟩
    ihave H' := (owns_squeeze m h (get σ)) $$ H
    isplitl [H']; · iexact H'
    iintro %X Hs
    iapply Hk
    iapply (owns_unsqueeze m h X)
    iexact Hs
  · conv_rhs => rw [← hc.put_get σ]
    congr 1
    funext j
    simp only [Equiv.apply_symm_apply]

variable [FloatOps F] (defs : Defs nD τ sig (Elt F) Λ) (𝒱 : Variants) (E : Set ℕ)

/-- `p`, run from the contents `σ`, ends with an answer and contents in `Q`. -/
def Tr (σ : Mem F) {α : Type} (p : Prog (TpuEff nD τ sig (Elt F) Λ .tc) α) (Q : α → Mem F → Prop) : Prop :=
  (Own d R σ : sProp 𝕄) ⊢ wp frame (wpE defs 𝒱 (d, Proc.tc) none) E p (fun a => iprop(∃ σ', ⌜Q a σ'⌝ ∗ Own d R σ'))

variable {d R defs 𝒱 E}

/-- Returning changes nothing. -/
theorem Tr.ret {σ : Mem F} {α : Type} {a : α} {Q : α → Mem F → Prop} (h : Q a σ) : Tr (U := U) d R defs 𝒱 E σ (.ret a) Q := by
  unfold Tr
  rw [wp_ret]
  iintro H
  imodintro
  iexists σ
  isplitr; · ipureintro; exact h
  iexact H

/-- One program after another. -/
theorem Tr.bind {σ : Mem F} {α β : Type} {p : Prog (TpuEff nD τ sig (Elt F) Λ .tc) β} {k : β → Prog (TpuEff nD τ sig (Elt F) Λ .tc) α}
    {Q' : β → Mem F → Prop} {Q : α → Mem F → Prop} (hp : Tr (U := U) d R defs 𝒱 E σ p Q')
    (hk : ∀ b σ', Q' b σ' → Tr (U := U) d R defs 𝒱 E σ' (k b) Q) : Tr (U := U) d R defs 𝒱 E σ (p.bind k) Q := by
  unfold Tr at *
  show _ ⊢ wp frame _ E (p >>= k) _
  rw [wp_bind]
  refine hp.trans (wp_mono _ _ _ fun b => ?_)
  iintro ⟨%σ', %h, H⟩
  iapply (hk b σ' h)
  iexact H

/-- A weaker postcondition. -/
theorem Tr.mono {σ : Mem F} {α : Type} {p : Prog (TpuEff nD τ sig (Elt F) Λ .tc) α} {Q' Q : α → Mem F → Prop}
    (hp : Tr (U := U) d R defs 𝒱 E σ p Q') (h : ∀ a σ', Q' a σ' → Q a σ') : Tr (U := U) d R defs 𝒱 E σ p Q := by
  unfold Tr at *
  refine hp.trans (wp_mono _ _ _ fun b => ?_)
  iintro ⟨%σ', %h', H⟩
  iexists σ'
  isplitr; · ipureintro; exact h _ _ h'
  iexact H

/-- A load answers with the contents at its coordinates. -/
theorem Tr.op_load {cs : CoreSpace} {s : Shape} {e : EltTy} {m : Memref sig .tc cs s e} {get : Mem F → s.Idx → Elt F e}
    {put : Mem F → (s.Idx → Elt F e) → Mem F} (hc : Cell (U := U) (nD := nD) (τ := τ) d R m get put) {σ : Mem F} {r : LoadRect s}
    {hl : m.view.LoadsAt r} {α : Type} {k : (r.shape.Idx → Elt F e) → Prog (TpuEff nD τ sig (Elt F) Λ .tc) α} {Q : α → Mem F → Prop}
    (hk : Tr (U := U) d R defs 𝒱 E σ (k (fun j => get σ (r.idx j))) Q) :
    Tr (U := U) d R defs 𝒱 E σ (.op (.load m r hl) k) Q := by
  unfold Tr at *
  iintro H
  ihave H' := (hc.split σ) $$ H
  icases H' with ⟨H, Hk⟩
  ihave H' := (owns_read m _) $$ H
  icases H' with ⟨%f, %hf, H⟩
  iapply (wp_load 𝒱 (d, Proc.tc) none E (S := m.view.set) (by unfold View.setOn View.set; exact Finset.map_subset_map.mpr (Finset.subset_univ _))) $$ H
  iintro H
  rw [show m.view.readAt (Elt F) r f = fun j => get σ (r.idx j) from by rw [← hf]; rfl]
  iapply hk
  ihave H' := (owns_of m (get σ) f hf) $$ H
  ihave H'' := Hk $$ H'
  rw [hc.put_get σ]
  iexact H''

/-- A store replaces the contents of its block. -/
theorem Tr.op_store {cs : CoreSpace} {s : Shape} {e : EltTy} {m : Memref sig .tc cs s e} {get : Mem F → s.Idx → Elt F e}
    {put : Mem F → (s.Idx → Elt F e) → Mem F} (hc : Cell (U := U) (nD := nD) (τ := τ) d R m get put) {σ : Mem F} {r : Rect s}
    {w : r.shape.Idx → Elt F e} {hs : (m.access r).Stores Finset.univ} {hm : (Finset.univ : Finset r.shape.Idx) = Finset.univ ∨ ∀ a, r.stride a = 1}
    {α : Type} {k : PUnit → Prog (TpuEff nD τ sig (Elt F) Λ .tc) α} {Q : α → Mem F → Prop}
    (hk : Tr (U := U) d R defs 𝒱 E (put σ (r.overlay (get σ) w)) (k ⟨⟩) Q) :
    Tr (U := U) d R defs 𝒱 E σ (.op (.store m r w Finset.univ hs hm) k) Q := by
  unfold Tr at *
  iintro H
  ihave H' := (hc.split σ) $$ H
  icases H' with ⟨H, Hk⟩
  ihave H' := (owns_read m _) $$ H
  icases H' with ⟨%f, %hf, H⟩
  iapply (wp_store (m := m) (r := r) (w := w) (Mk := Finset.univ) (hx := hs) (hm := hm) (k := k) (defs := defs) (f := f)
    (Q := fun a => iprop(∃ σ', ⌜Q a σ'⌝ ∗ Own d R σ')) 𝒱 (d, Proc.tc) none E (S := m.view.set) (m.view.set_slice_subset r)) $$ H
  iintro H
  iapply hk
  iapply Hk
  iapply (owns_of m _ ((m.access r).write (Elt F) f w Finset.univ) (by
    funext j
    by_cases hj : j ∈ r.set
    · obtain ⟨i, rfl⟩ := r.exists_idx_of_mem hj
      exact (View.read_slice_write_emb r f w (Finset.mem_univ i)).trans (Rect.overlay_emb r _ _ i).symm
    · rw [Rect.overlay_of_not_mem _ _ _ hj, ← hf]
      exact View.read_slice_write_of_not_mem r f w _ (by rw [r.map_emb_univ]; exact hj))) $$ H

/-- A load alone answers with the contents at its coordinates. -/
theorem Tr.load {cs : CoreSpace} {s : Shape} {e : EltTy} {m : Memref sig .tc cs s e} {get : Mem F → s.Idx → Elt F e}
    {put : Mem F → (s.Idx → Elt F e) → Mem F} (hc : Cell (U := U) (nD := nD) (τ := τ) d R m get put) {σ : Mem F} {r : LoadRect s}
    {hl : m.view.LoadsAt r} : Tr (U := U) d R defs 𝒱 E σ (Prog.lift (.load m r hl)) (fun x σ' => σ' = σ ∧ x = fun j => get σ (r.idx j)) :=
  Tr.op_load hc (Tr.ret ⟨rfl, rfl⟩)

/-- A scalar load answers with the contents at its index. -/
theorem Tr.smem {s : Shape} {e : EltTy} {m : Memref sig .tc .smem s e} {get : Mem F → s.Idx → Elt F e}
    {put : Mem F → (s.Idx → Elt F e) → Mem F} (hc : Cell (U := U) (nD := nD) (τ := τ) d R m get put) {σ : Mem F} {r : Rect s}
    {h1 : r.shape.numel = 1} {hp : e.packing = 1} {x : r.shape.Idx} :
    Tr (U := U) d R defs 𝒱 E σ (smemLoad m r h1 hp) (fun y σ' => σ' = σ ∧ y = get σ (r.emb x)) := by
  unfold smemLoad smemLoadElt
  refine Tr.op_load hc (Tr.ret ⟨rfl, ?_⟩)
  have : Subsingleton r.shape.Idx := Fintype.card_le_one_iff_subsingleton.mp (by rw [Shape.card_idx, h1])
  exact congrArg (fun i => get σ (r.emb i)) (Subsingleton.elim _ _)

/-- Load through a block, then store into it: only the store matters. -/
theorem Tr.stv {s : Shape} {e : EltTy} {m : Memref sig .tc .vmem s e} {get : Mem F → s.Idx → Elt F e}
    {put : Mem F → (s.Idx → Elt F e) → Mem F} (hc : Cell (U := U) (nD := nD) (τ := τ) d R m get put) {σ : Mem F} {r : Rect s}
    {h : 0 < r.shape.numel} {w : r.shape.Idx → Elt F e} {hs : (m.access r).Stores Finset.univ} :
    Tr (U := U) d R defs 𝒱 E σ (Win.stv m r h w hs) (fun _ σ' => σ' = put σ (r.overlay (get σ) w)) := by
  refine Tr.op_load hc ?_
  exact Tr.op_store hc (Tr.ret rfl)

/-- A loop keeps an invariant that each of its steps carries on. -/
theorem Tr.stepsFrom {n : ℕ} {f : Fin n → Prog (TpuEff nD τ sig (Elt F) Λ .tc) PUnit} {I : ℕ → Mem F → Prop}
    (hf : ∀ (i : Fin n) σ, I i.val σ → Tr (U := U) d R defs 𝒱 E σ (f i) (fun _ => I (i.val + 1))) :
    ∀ (k i : ℕ) (h : k + i = n) (σ : Mem F), I i σ → Tr (U := U) d R defs 𝒱 E σ (Win.stepsFrom f k i h) (fun _ => I n)
  | 0, i, h, σ, hσ => Tr.ret (by rwa [← show i = n by omega])
  | k + 1, i, h, σ, hσ => Tr.bind (hf ⟨i, by omega⟩ σ hσ) fun _ σ' h' => Tr.stepsFrom hf k (i + 1) (by omega) σ' h'

/-- A loop, by its invariant. -/
theorem Tr.steps {n : ℕ} {f : Fin n → Prog (TpuEff nD τ sig (Elt F) Λ .tc) PUnit} (I : ℕ → Mem F → Prop) {σ : Mem F} (h0 : I 0 σ)
    (hf : ∀ (i : Fin n) σ, I i.val σ → Tr (U := U) d R defs 𝒱 E σ (f i) (fun _ => I (i.val + 1))) :
    Tr (U := U) d R defs 𝒱 E σ (Win.steps n f) (fun _ => I n) :=
  Tr.stepsFrom hf n 0 rfl σ h0

end
end Win
end
-- ==== Proof.Steps.lean ====
/-
  What each step of the body does, as triples.

  A step is described by the contents it leaves: the scores, the weights' codes and the results of its item are
  those of `Spec`, and everything else is as before.
-/
module

public import proofs.«01_k».proof.Proof.Spec
public import proofs.«01_k».proof.Proof.Hoare

@[expose] public section

noncomputable section

namespace Win

open Idealize.ShloMosaic hiding ix1 ix2 ix3 ix4 ix5 eq_ix1 eq_ix2 eq_ix3 eq_ix4 eq_ix5
open Idealize.ShloMosaic.ValueIdx
open Idealize.SL Idealize.SL.RA Idealize.SL.Sem

/-! ## A block written into an array, read at coordinates -/

/-- An element inside a written block of two axes. -/
theorem ov2_in {α : Type} {m n s t a b : ℕ} (h) (X : (⟨2, ![m, n]⟩ : Shape).Idx → α) (w : (⟨2, ![s, t]⟩ : Shape).Idx → α)
    (i : Fin m) (j : Fin n) (i' : Fin s) (j' : Fin t) (hi : i.val = a + i'.val) (hj : j.val = b + j'.val) :
    (Rect.unit (s := ⟨2, ![m, n]⟩) ![a, b] ![s, t] h).overlay X w (ix2 i j) = w (ix2 i' j') := by
  have e : (ix2 i j : (⟨2, ![m, n]⟩ : Shape).Idx) = (Rect.unit (s := ⟨2, ![m, n]⟩) ![a, b] ![s, t] h).emb (ix2 i' j') := by
    funext d
    match d with
    | ⟨0, _⟩ => exact Fin.ext (by show i.val = a + 1 * i'.val; omega)
    | ⟨1, _⟩ => exact Fin.ext (by show j.val = b + 1 * j'.val; omega)
  rw [e]
  exact Rect.overlay_emb (Rect.unit (s := ⟨2, ![m, n]⟩) ![a, b] ![s, t] h) X w (ix2 i' j')

/-- An element outside it. -/
theorem ov2_out {α : Type} {m n s t a b : ℕ} (h) (X : (⟨2, ![m, n]⟩ : Shape).Idx → α) (w : (⟨2, ![s, t]⟩ : Shape).Idx → α)
    (i : Fin m) (j : Fin n) (hn : ¬((a ≤ i.val ∧ i.val < a + s) ∧ b ≤ j.val ∧ j.val < b + t)) :
    (Rect.unit (s := ⟨2, ![m, n]⟩) ![a, b] ![s, t] h).overlay X w (ix2 i j) = X (ix2 i j) :=
  Rect.overlay_of_not_mem _ X w fun hm => hn ⟨Rect.mem_set_unit.mp hm 0, Rect.mem_set_unit.mp hm 1⟩

/-- An element inside a written block of three axes. -/
theorem ov3_in {α : Type} {l m n r s t a b c : ℕ} (h) (X : (⟨3, ![l, m, n]⟩ : Shape).Idx → α) (w : (⟨3, ![r, s, t]⟩ : Shape).Idx → α)
    (i : Fin l) (j : Fin m) (k : Fin n) (i' : Fin r) (j' : Fin s) (k' : Fin t) (hi : i.val = a + i'.val) (hj : j.val = b + j'.val)
    (hk : k.val = c + k'.val) :
    (Rect.unit (s := ⟨3, ![l, m, n]⟩) ![a, b, c] ![r, s, t] h).overlay X w (ix3 i j k) = w (ix3 i' j' k') := by
  have e : (ix3 i j k : (⟨3, ![l, m, n]⟩ : Shape).Idx) = (Rect.unit (s := ⟨3, ![l, m, n]⟩) ![a, b, c] ![r, s, t] h).emb (ix3 i' j' k') := by
    funext d
    match d with
    | ⟨0, _⟩ => exact Fin.ext (by show i.val = a + 1 * i'.val; omega)
    | ⟨1, _⟩ => exact Fin.ext (by show j.val = b + 1 * j'.val; omega)
    | ⟨2, _⟩ => exact Fin.ext (by show k.val = c + 1 * k'.val; omega)
  rw [e]
  exact Rect.overlay_emb (Rect.unit (s := ⟨3, ![l, m, n]⟩) ![a, b, c] ![r, s, t] h) X w (ix3 i' j' k')

/-- An element outside it. -/
theorem ov3_out {α : Type} {l m n r s t a b c : ℕ} (h) (X : (⟨3, ![l, m, n]⟩ : Shape).Idx → α) (w : (⟨3, ![r, s, t]⟩ : Shape).Idx → α)
    (i : Fin l) (j : Fin m) (k : Fin n)
    (hn : ¬((a ≤ i.val ∧ i.val < a + r) ∧ (b ≤ j.val ∧ j.val < b + s) ∧ c ≤ k.val ∧ k.val < c + t)) :
    (Rect.unit (s := ⟨3, ![l, m, n]⟩) ![a, b, c] ![r, s, t] h).overlay X w (ix3 i j k) = X (ix3 i j k) :=
  Rect.overlay_of_not_mem _ X w fun hm => hn ⟨Rect.mem_set_unit.mp hm 0, Rect.mem_set_unit.mp hm 1, Rect.mem_set_unit.mp hm 2⟩

/-- Where a block of three axes reads. -/
theorem emb3 {l m n r s t a b c : ℕ} (h) (i : Fin r) (j : Fin s) (k : Fin t) (hi : a + i.val < l) (hj : b + j.val < m) (hk : c + k.val < n) :
    (Rect.unit (s := ⟨3, ![l, m, n]⟩) ![a, b, c] ![r, s, t] h).emb (ix3 i j k) = ix3 ⟨a + i.val, hi⟩ ⟨b + j.val, hj⟩ ⟨c + k.val, hk⟩ := by
  funext d
  match d with
  | ⟨0, _⟩ => exact Fin.ext (by show a + 1 * i.val = a + i.val; omega)
  | ⟨1, _⟩ => exact Fin.ext (by show b + 1 * j.val = b + j.val; omega)
  | ⟨2, _⟩ => exact Fin.ext (by show c + 1 * k.val = c + k.val; omega)

/-! ## Windows of packed rows -/

/-- One window of the packed rows. -/
def slotOf {α : Type} (X : S3x2x128x128.Idx → α) (n : Fin 3) : S2x128x128.Idx → α :=
  fun j => X (ix4 n (j 0 : Fin 2) (j 1 : Fin 128) (j 2 : Fin 128))

/-- The packed rows with one window replaced. -/
def setSlot {α : Type} (X : S3x2x128x128.Idx → α) (n : Fin 3) (Y : S2x128x128.Idx → α) : S3x2x128x128.Idx → α :=
  fun j => if (j 0).val = n.val then Y (ix3 (j 1 : Fin 2) (j 2 : Fin 128) (j 3 : Fin 128)) else X j

/-- A window reads what it was replaced by. -/
theorem slotOf_setSlot {α : Type} (X : S3x2x128x128.Idx → α) (n : Fin 3) (Y : S2x128x128.Idx → α) : slotOf (setSlot X n Y) n = Y := by
  funext j
  show (if n.val = n.val then Y (ix3 (j 0 : Fin 2) (j 1 : Fin 128) (j 2 : Fin 128)) else _) = Y j
  rw [if_pos rfl]
  exact congrArg Y (eq_ix3 j).symm

/-- The other windows stay. -/
theorem slotOf_setSlot_ne {α : Type} (X : S3x2x128x128.Idx → α) (n n' : Fin 3) (Y : S2x128x128.Idx → α) (h : n' ≠ n) :
    slotOf (setSlot X n Y) n' = slotOf X n' := by
  funext j
  show (if n'.val = n.val then _ else _) = _
  rw [if_neg fun e => h (Fin.ext e)]
  rfl

/-- A block of one window written whole replaces the window. -/
theorem overlay_slot {α : Type} (X : S3x2x128x128.Idx → α) (n : ℕ) (h : n < 3) (w : S1x2x128x128.Idx → α) :
    (slotRect n h).overlay X w = setSlot X ⟨n, h⟩ (fun j => w (ix4 (0 : Fin 1) (j 0 : Fin 2) (j 1 : Fin 128) (j 2 : Fin 128))) := by
  have key : ∀ (i : Fin 3) (a : Fin 2) (b c : Fin 128), (slotRect n h).overlay X w (ix4 i a b c)
      = if i.val = n then w (ix4 (0 : Fin 1) a b c) else X (ix4 i a b c) := by
    intro i a b c
    by_cases e : i.val = n
    · have : (ix4 i a b c : S3x2x128x128.Idx) = (slotRect n h).emb (ix4 (0 : Fin 1) a b c) := by
        funext d
        match d with
        | ⟨0, _⟩ => exact Fin.ext (by show i.val = n + 1 * 0; omega)
        | ⟨1, _⟩ => exact Fin.ext (by show a.val = 0 + 1 * a.val; omega)
        | ⟨2, _⟩ => exact Fin.ext (by show b.val = 0 + 1 * b.val; omega)
        | ⟨3, _⟩ => exact Fin.ext (by show c.val = 0 + 1 * c.val; omega)
      rw [if_pos e, this]
      exact Rect.overlay_emb (slotRect n h) X w (ix4 (0 : Fin 1) a b c)
    · rw [if_neg e]
      refine Rect.overlay_of_not_mem (slotRect n h) X w fun hm => e ?_
      have h0 : n ≤ i.val ∧ i.val < n + 1 := Rect.mem_set_unit.mp hm 0
      omega
  funext j
  have := key (j 0) (j 1) (j 2) (j 3)
  rw [eq_ix4 j]
  exact this

section

variable {nD : Nat} {τ : Topo} {sig : RefSig} {F : FTy → Type} {U : Type} [URA U] {Λ : Labels}
variable (d : Dev nD) (R : Refs sig)

/-- Reading one window of the packed rows. -/
theorem slot_get {α : Type} (X : S3x2x128x128.Idx → α) (n : ℕ) (h : n < 3) :
    (fun i : S2x128x128.Idx => X ((slotRect n h).emb (Shape.reshapeEquiv squeezes_slot.numel_eq i))) = slotOf X ⟨n, h⟩ := by
  funext i
  rw [eq_ix3 i]
  refine congrArg X ?_
  refine (congrArg _ (reshapeEquiv_ix3_1abc squeezes_slot.numel_eq (i 0 : Fin 2) (i 1 : Fin 128) (i 2 : Fin 128))).trans ?_
  funext d
  match d with
  | ⟨0, _⟩ => exact Fin.ext (by show n + 1 * 0 = n; omega)
  | ⟨1, _⟩ => exact Fin.ext (by show 0 + 1 * (i 0 : Fin 2).val = (i 0 : Fin 2).val; omega)
  | ⟨2, _⟩ => exact Fin.ext (by show 0 + 1 * (i 1 : Fin 128).val = (i 1 : Fin 128).val; omega)
  | ⟨3, _⟩ => exact Fin.ext (by show 0 + 1 * (i 2 : Fin 128).val = (i 2 : Fin 128).val; omega)

/-- Writing one window of the packed rows. -/
theorem slot_put {α : Type} (X : S3x2x128x128.Idx → α) (n : ℕ) (h : n < 3) (Y : S2x128x128.Idx → α) :
    (slotRect n h).overlay X (fun i => Y ((Shape.reshapeEquiv squeezes_slot.numel_eq).symm i)) = setSlot X ⟨n, h⟩ Y := by
  rw [overlay_slot]
  congr 1
  funext j
  refine congrArg Y ?_
  rw [Equiv.symm_apply_eq]
  conv_rhs => rw [eq_ix3 j]
  exact (reshapeEquiv_ix3_1abc squeezes_slot.numel_eq (j 0 : Fin 2) (j 1 : Fin 128) (j 2 : Fin 128)).symm

/-- One window of the packed keys is a cell. -/
theorem cell_wk_slot (n : ℕ) (h : n < 3) : Cell (U := U) (nD := nD) (τ := τ) d R (slot R.wk n h) (fun σ : Mem F => slotOf σ.wk ⟨n, h⟩)
    (fun σ X => { σ with wk := setSlot σ.wk ⟨n, h⟩ X }) := by
  have := Cell.squeeze d R (Cell.slice d R (cell_wk (F := F) (U := U) (nD := nD) (τ := τ) d R) (slotRect n h) (fun _ => rfl)) squeezes_slot
  have e₁ := funext fun σ : Mem F => slot_get σ.wk n h
  have e₂ := funext fun σ : Mem F => funext fun X => congrArg (fun Y => { σ with wk := Y }) (slot_put σ.wk n h X)
  exact Eq.mp (congrArg₂ (Cell (U := U) (nD := nD) (τ := τ) d R (slot R.wk n h)) e₁ e₂) this

/-- One window of the packed values is a cell. -/
theorem cell_wv_slot (n : ℕ) (h : n < 3) : Cell (U := U) (nD := nD) (τ := τ) d R (slot R.wv n h) (fun σ : Mem F => slotOf σ.wv ⟨n, h⟩)
    (fun σ X => { σ with wv := setSlot σ.wv ⟨n, h⟩ X }) := by
  have := Cell.squeeze d R (Cell.slice d R (cell_wv (F := F) (U := U) (nD := nD) (τ := τ) d R) (slotRect n h) (fun _ => rfl)) squeezes_slot
  have e₁ := funext fun σ : Mem F => slot_get σ.wv n h
  have e₂ := funext fun σ : Mem F => funext fun X => congrArg (fun Y => { σ with wv := Y }) (slot_put σ.wv n h X)
  exact Eq.mp (congrArg₂ (Cell (U := U) (nD := nD) (τ := τ) d R (slot R.wv n h)) e₁ e₂) this

variable {d R} [FloatOps F] {defs : Defs nD τ sig (Elt F) Λ} {𝒱 : Variants} {E : Set ℕ}

/-! ## Packing -/

/-- Packing an array of codes leaves its words, and nothing else changes. -/
theorem Tr.split {T H Qd NT : ℕ} {src : Memref sig .tc .vmem ⟨3, ![T, H, 128]⟩ .i8} {dst : Memref sig .tc .vmem ⟨3, ![Qd, T, 128]⟩ .i32}
    {gs : Mem F → (⟨3, ![T, H, 128]⟩ : Shape).Idx → BitVec 8} {ps} (hs : Cell (U := U) (nD := nD) (τ := τ) d R src gs ps)
    {gd : Mem F → (⟨3, ![Qd, T, 128]⟩ : Shape).Idx → BitVec 32} {pd} (hd : Cell (U := U) (nD := nD) (τ := τ) d R dst gd pd)
    (hgd : ∀ σ X, gd (pd σ X) = X) (hpd : ∀ σ X Y, pd (pd σ X) Y = pd σ Y) (hgs : ∀ σ X, gs (pd σ X) = gs σ)
    (hH : Qd * 4 ≤ H) (hT : NT * 8 ≤ T) (hT' : T ≤ NT * 8) (hN : 0 < NT) (σ : Mem F) :
    Tr (U := U) d R defs 𝒱 E σ (Win.split src dst NT hH hT) (fun _ σ' => ∃ W, σ' = pd σ W ∧ Packed W (code3 (gs σ))) := by
  -- after `K` blocks, the words of the first `K` blocks are right
  let J : ℕ → Mem F → Prop := fun K σ' => ∃ W, σ' = pd σ W ∧
    ∀ (i : Fin Qd) (t : Fin T) (l : Fin 128) (q : ℕ), q < 32 → i.val * NT + t.val / 8 < K →
      (W (ix3 i t l)).getLsbD q = (code3 (gs σ) (4 * (t.val / 4) + q / 8) (4 * i.val + t.val % 4) l.val).getLsbD (q % 8)
  have step : ∀ (i : Fin Qd) (t : Fin NT) (σ₁ : Mem F), J (i.val * NT + t.val) σ₁ →
      Tr (U := U) d R defs 𝒱 E σ₁ (splitStep src dst i.val t.val (by omega) (by omega) (by omega)) (fun _ => J (i.val * NT + (t.val + 1))) := by
    rintro i t σ₁ ⟨W, rfl, hW⟩
    refine Tr.bind (Tr.load hs) ?_
    rintro x σ₂ ⟨rfl, rfl⟩
    refine (Tr.stv hd).mono ?_
    rintro - σ₃ rfl
    refine ⟨_, hpd _ _ _, ?_⟩
    intro i' t' l q hq hK
    rw [hgd]
    by_cases hin : i'.val = i.val ∧ t'.val / 8 = t.val
    · rw [ov3_in (l := Qd) (m := T) (n := 128) (r := 1) (s := 8) (t := 128) (a := i.val) (b := t.val * 8) (c := 0) _ _ _ i' t' l (0 : Fin 1)
        (⟨t'.val % 8, by omega⟩ : Fin 8) l (by show i'.val = i.val + 0; omega) (by show t'.val = t.val * 8 + t'.val % 8; omega) (by omega)]
      rw [words_bit _ _ _ _ _ hq, hgs]
      have hi := i.isLt
      have ht := t.isLt
      have ht' := t'.isLt
      rw [code3_of (gs σ) (t := 4 * (t'.val / 4) + q / 8) (h := 4 * i'.val + t'.val % 4) (l := l.val) (by omega) (by omega) l.isLt]
      show (gs σ _).getLsbD _ = _
      congr 2
      funext dd
      match dd with
      | ⟨0, _⟩ => exact Fin.ext (by show t.val * 8 + 1 * (4 * (t'.val % 8 / 4) + q / 8) = 4 * (t'.val / 4) + q / 8; omega)
      | ⟨1, _⟩ => exact Fin.ext (by show i.val * 4 + 1 * (t'.val % 8 % 4) = 4 * i'.val + t'.val % 4; omega)
      | ⟨2, _⟩ => exact Fin.ext (by show 0 + 1 * l.val = l.val; omega)
    · rw [ov3_out (l := Qd) (m := T) (n := 128) (r := 1) (s := 8) (t := 128) (a := i.val) (b := t.val * 8) (c := 0) _ _ _ i' t' l (by omega)]
      refine hW i' t' l q hq ?_
      have ht := t.isLt
      have ht' := t'.isLt
      have h8 : t'.val / 8 < NT := by omega
      rcases Nat.lt_trichotomy i'.val i.val with h | h | h
      · have : (i'.val + 1) * NT ≤ i.val * NT := Nat.mul_le_mul_right _ h
        rw [Nat.add_mul] at this
        omega
      · rw [h] at hK ⊢
        have : t'.val / 8 ≠ t.val := fun e => hin ⟨h, e⟩
        omega
      · have : (i.val + 1) * NT ≤ i'.val * NT := Nat.mul_le_mul_right _ h
        rw [Nat.add_mul] at this
        omega
  unfold Win.split
  refine (Tr.steps (fun i => J (i * NT)) ⟨gd σ, (hd.put_get σ).symm, by intro _ _ _ _ _ h; exact absurd h (by omega)⟩ ?_).mono ?_
  · intro i σ₁ h₁
    refine (Tr.steps (fun t => J (i.val * NT + t)) h₁ (fun t σ₂ h₂ => step i t σ₂ h₂)).mono ?_
    intro _ σ' h
    rw [Nat.add_mul, Nat.one_mul]
    exact h
  · rintro - σ' ⟨W, rfl, hW⟩
    refine ⟨W, rfl, fun i t l q hq => hW i t l q hq ?_⟩
    have hi : (i.val + 1) * NT ≤ Qd * NT := Nat.mul_le_mul_right _ i.isLt
    rw [Nat.add_mul] at hi
    have := t.isLt
    omega

/-! ## Reading a head's rows -/

/-- Sixty-four rows of a head are read from the packed words. -/
theorem Tr.headRows {T Qd : ℕ} {w : Memref sig .tc .vmem ⟨3, ![Qd, T, 128]⟩ .i32}
    {get : Mem F → (⟨3, ![Qd, T, 128]⟩ : Shape).Idx → BitVec 32} {put} (hc : Cell (U := U) (nD := nD) (τ := τ) d R w get put)
    {σ : Mem F} {c : Codes} (hp : Packed (get σ) c) (head first : ℕ) (hH : head / 4 < Qd) (hT : first + 64 ≤ T) (hf : 4 ∣ first) :
    Tr (U := U) d R defs 𝒱 E σ (Win.headRows w head first hH hT) (fun x σ' => σ' = σ ∧ x = headR c head first) := by
  unfold Win.headRows
  refine Tr.bind (Tr.load hc) ?_
  rintro y σ₁ ⟨rfl, rfl⟩
  refine Tr.bind (Tr.load hc) ?_
  rintro z σ₂ ⟨rfl, rfl⟩
  exact Tr.ret ⟨rfl, rows64_eq (get _) c hp head first hH hT hf⟩

/-- The query rows of one head. -/
theorem Tr.queryRows {σ : Mem F} {I : Inp F} (hp : Packed σ.wq (code3 I.q)) (n : Fin 2) (g : Fin 8) (r : ℕ) (hr : r < 7) :
    Tr (U := U) d R defs 𝒱 E σ (Win.queryRows R.wq n g r hr) (fun x σ' => σ' = σ ∧ x = qrow I n.val (g.val * 7 + r)) := by
  unfold Win.queryRows
  refine Tr.bind (Tr.headRows (cell_wq d R) hp _ _ _ _ (by omega)) ?_
  rintro a σ₁ ⟨rfl, rfl⟩
  refine Tr.bind (Tr.headRows (cell_wq d R) hp _ _ _ _ (by omega)) ?_
  rintro b σ₂ ⟨rfl, rfl⟩
  exact Tr.ret ⟨rfl, rfl⟩

/-- One group's rows of keys. -/
theorem Tr.groupRows_k {σ : Mem F} {c0 c1 : Codes} (n : Fin 2) (g : Fin 8)
    (h0 : Packed (slotOf σ.wk ⟨n.val, by omega⟩) c0) (h1 : Packed (slotOf σ.wk ⟨n.val + 1, by omega⟩) c1) {α : Type}
    {k : FVec F S64x128 .fp8e4m3 → FVec F S64x128 .fp8e4m3 → FVec F S64x128 .fp8e4m3 → FVec F S64x128 .fp8e4m3 → Prog (TpuEff nD τ sig (Elt F) Λ .tc) α}
    {Q : α → Mem F → Prop}
    (hk : Tr (U := U) d R defs 𝒱 E σ (k (headR c0 g 0) (headR c0 g 64) (headR c1 g 0) (headR c1 g 64)) Q) :
    Tr (U := U) d R defs 𝒱 E σ (Win.groupRows R.wk n g k) Q := by
  unfold Win.groupRows
  refine Tr.bind (Tr.headRows (cell_wk_slot d R n.val (by omega)) h0 _ _ _ _ (by omega)) ?_
  rintro _ σ₁ ⟨rfl, rfl⟩
  refine Tr.bind (Tr.headRows (cell_wk_slot d R n.val (by omega)) h0 _ _ _ _ (by omega)) ?_
  rintro _ σ₁ ⟨rfl, rfl⟩
  refine Tr.bind (Tr.headRows (cell_wk_slot d R (n.val + 1) (by omega)) h1 _ _ _ _ (by omega)) ?_
  rintro _ σ₁ ⟨rfl, rfl⟩
  refine Tr.bind (Tr.headRows (cell_wk_slot d R (n.val + 1) (by omega)) h1 _ _ _ _ (by omega)) ?_
  rintro _ σ₁ ⟨rfl, rfl⟩
  exact hk

/-- One group's rows of values. -/
theorem Tr.groupRows_v {σ : Mem F} {c0 c1 : Codes} (n : Fin 2) (g : Fin 8)
    (h0 : Packed (slotOf σ.wv ⟨n.val, by omega⟩) c0) (h1 : Packed (slotOf σ.wv ⟨n.val + 1, by omega⟩) c1) {α : Type}
    {k : FVec F S64x128 .fp8e4m3 → FVec F S64x128 .fp8e4m3 → FVec F S64x128 .fp8e4m3 → FVec F S64x128 .fp8e4m3 → Prog (TpuEff nD τ sig (Elt F) Λ .tc) α}
    {Q : α → Mem F → Prop}
    (hk : Tr (U := U) d R defs 𝒱 E σ (k (headR c0 g 0) (headR c0 g 64) (headR c1 g 0) (headR c1 g 64)) Q) :
    Tr (U := U) d R defs 𝒱 E σ (Win.groupRows R.wv n g k) Q := by
  unfold Win.groupRows
  refine Tr.bind (Tr.headRows (cell_wv_slot d R n.val (by omega)) h0 _ _ _ _ (by omega)) ?_
  rintro _ σ₁ ⟨rfl, rfl⟩
  refine Tr.bind (Tr.headRows (cell_wv_slot d R n.val (by omega)) h0 _ _ _ _ (by omega)) ?_
  rintro _ σ₁ ⟨rfl, rfl⟩
  refine Tr.bind (Tr.headRows (cell_wv_slot d R (n.val + 1) (by omega)) h1 _ _ _ _ (by omega)) ?_
  rintro _ σ₁ ⟨rfl, rfl⟩
  refine Tr.bind (Tr.headRows (cell_wv_slot d R (n.val + 1) (by omega)) h1 _ _ _ _ (by omega)) ?_
  rintro _ σ₁ ⟨rfl, rfl⟩
  exact hk

end

end Win

end
-- ==== Proof.Items.lean ====
/-
  The three stages of one item: scores, weights' codes, results.
-/
module

public import proofs.«01_k».proof.Proof.Steps

@[expose] public section

noncomputable section

namespace Win

open Idealize.ShloMosaic hiding ix1 ix2 ix3 ix4 ix5 eq_ix1 eq_ix2 eq_ix3 eq_ix4 eq_ix5
open Idealize.ShloMosaic.ValueIdx
open Idealize.SL Idealize.SL.RA Idealize.SL.Sem

variable {nD : Nat} {τ : Topo} {sig : RefSig} {F : FTy → Type} {U : Type} [URA U] {Λ : Labels}
variable {d : Dev nD} {R : Refs sig} [FloatOps F] {defs : Defs nD τ sig (Elt F) Λ} {𝒱 : Variants} {E : Set ℕ}
variable {I : Inp F}

/-! ## The contents at a row and a column of a head's block -/

/-- The scores of the left columns. -/
theorem scoreT_left (n g : ℕ) (r : Fin 7) (x : Fin 64) (a : Fin 448) (b : Fin 256) (hb : b.val < 128) (ha : a.val = r.val * 64 + x.val) :
    scoreT I n g (ix2 a b) = scoreA (scores1 (qall I n g) (wide I.kp I.k n g)) r (ix3 (0 : Fin 1) x (⟨b.val, hb⟩ : Fin 128)) := by
  have key : ∀ (r' : Fin 7) (x' : Fin 64), r' = r → x' = x → scoreA (scores1 (qall I n g) (wide I.kp I.k n g)) r' (ix3 (0 : Fin 1) x' (⟨b.val, hb⟩ : Fin 128))
      = scoreA (scores1 (qall I n g) (wide I.kp I.k n g)) r (ix3 (0 : Fin 1) x (⟨b.val, hb⟩ : Fin 128)) := by rintro _ _ rfl rfl; rfl
  refine (dif_pos hb).trans (key _ _ (Fin.ext ?_) (Fin.ext ?_))
  · show a.val / 64 = r.val; omega
  · show a.val % 64 = x.val; omega

/-- The scores of the right columns. -/
theorem scoreT_right (n g : ℕ) (r : Fin 7) (x : Fin 64) (y : Fin 128) (a : Fin 448) (b : Fin 256) (hb : b.val = 128 + y.val) (ha : a.val = r.val * 64 + x.val) :
    scoreT I n g (ix2 a b) = scoreB (scores1 (qall I n g) (wide I.kp I.k n g)) (scores2 (qall I n g) (narrow I.kp I.k n g)) r (ix3 (0 : Fin 1) x y) := by
  have key : ∀ (r' : Fin 7) (x' : Fin 64) (y' : Fin 128), r' = r → x' = x → y' = y →
      scoreB (scores1 (qall I n g) (wide I.kp I.k n g)) (scores2 (qall I n g) (narrow I.kp I.k n g)) r' (ix3 (0 : Fin 1) x' y')
        = scoreB (scores1 (qall I n g) (wide I.kp I.k n g)) (scores2 (qall I n g) (narrow I.kp I.k n g)) r (ix3 (0 : Fin 1) x y) := by rintro _ _ _ rfl rfl rfl; rfl
  refine (dif_neg (by show ¬ b.val < 128; omega)).trans (key _ _ _ (Fin.ext ?_) (Fin.ext ?_) (Fin.ext ?_))
  · show a.val / 64 = r.val; omega
  · show a.val % 64 = x.val; omega
  · show b.val - 128 = y.val; omega

/-- The wide weights' left columns. -/
theorem p1T_left (n : ℕ) (g : Fin 8) (r : Fin 7) (x : Fin 64) (a : Fin 448) (b : Fin 256) (hb : b.val < 128) (ha : a.val = r.val * 64 + x.val) :
    p1T I n g (ix2 a b) = codesA (wrow I n g r) (ix3 (0 : Fin 1) x (⟨b.val, hb⟩ : Fin 128)) := by
  have key : ∀ (r' : Fin 7) (x' : Fin 64), r' = r → x' = x → codesA (wrow I n g r') (ix3 (0 : Fin 1) x' (⟨b.val, hb⟩ : Fin 128))
      = codesA (wrow I n g r) (ix3 (0 : Fin 1) x (⟨b.val, hb⟩ : Fin 128)) := by rintro _ _ rfl rfl; rfl
  refine (dif_pos hb).trans (key _ _ (Fin.ext ?_) (Fin.ext ?_))
  · show a.val / 64 = r.val; omega
  · show a.val % 64 = x.val; omega

/-- The wide weights' right columns. -/
theorem p1T_right (n : ℕ) (g : Fin 8) (r : Fin 7) (x : Fin 64) (y : Fin 128) (a : Fin 448) (b : Fin 256) (hb : b.val = 128 + y.val) (ha : a.val = r.val * 64 + x.val) :
    p1T I n g (ix2 a b) = codesB (wrow I n g r) (ix3 (0 : Fin 1) x y) := by
  have key : ∀ (r' : Fin 7) (x' : Fin 64) (y' : Fin 128), r' = r → x' = x → y' = y →
      codesB (wrow I n g r') (ix3 (0 : Fin 1) x' y') = codesB (wrow I n g r) (ix3 (0 : Fin 1) x y) := by rintro _ _ _ rfl rfl rfl; rfl
  refine (dif_neg (by show ¬ b.val < 128; omega)).trans (key _ _ _ (Fin.ext ?_) (Fin.ext ?_) (Fin.ext ?_))
  · show a.val / 64 = r.val; omega
  · show a.val % 64 = x.val; omega
  · show b.val - 128 = y.val; omega

/-- The narrow weights. -/
theorem p2T_at (n : ℕ) (g : Fin 8) (r : Fin 7) (x : Fin 64) (a : Fin 448) (b : Fin 128) (ha : a.val = r.val * 64 + x.val) :
    p2T I n g (ix2 a b) = codesC (wrow I n g r) (ix3 (0 : Fin 1) x b) := by
  have key : ∀ (r' : Fin 7) (x' : Fin 64), r' = r → x' = x → codesC (wrow I n g r') (ix3 (0 : Fin 1) x' b)
      = codesC (wrow I n g r) (ix3 (0 : Fin 1) x b) := by rintro _ _ rfl rfl; rfl
  refine key _ _ (Fin.ext ?_) (Fin.ext ?_)
  · show a.val / 64 = r.val; omega
  · show a.val % 64 = x.val; omega

/-- The results of one item. -/
theorem outT_at (n : ℕ) (g : Fin 8) (r : Fin 7) (c : Fin 2) (x : Fin 64) (y : Fin 128) (a : Fin 256) (b : Fin 7168)
    (ha : a.val = (n * 2 + c.val) * 64 + x.val) (hb : b.val = (g.val * 7 + r.val) * 128 + y.val) :
    outT I (ix2 a b) = outR I n g r c (ix2 x y) := by
  have key : ∀ (n' : ℕ) (g' : Fin 8) (r' : Fin 7) (c' : Fin 2) (x' : Fin 64) (y' : Fin 128), n' = n → g' = g → r' = r → c' = c → x' = x → y' = y →
      outR I n' g' r' c' (ix2 x' y') = outR I n g r c (ix2 x y) := by rintro _ _ _ _ _ _ rfl rfl rfl rfl rfl rfl; rfl
  refine key _ _ _ _ _ _ ?_ (Fin.ext ?_) (Fin.ext ?_) (Fin.ext ?_) (Fin.ext ?_) (Fin.ext ?_)
  · show a.val / 128 = n; omega
  · show b.val / 128 / 7 = g.val; omega
  · show b.val / 128 % 7 = r.val; omega
  · show a.val / 64 % 2 = c.val; omega
  · show a.val % 64 = x.val; omega
  · show b.val % 128 = y.val; omega

/-! ## Scores -/

/-- One item's scores go to their slot; the other slot stays. -/
theorem Tr.scoreStep {σ : Mem F} (i : ℕ) (n : Fin 2) (g : Fin 8) (hq : Packed σ.wq (code3 I.q))
    (h0 : Packed (slotOf σ.wk ⟨n.val, by omega⟩) (window I.kp I.k n.val))
    (h1 : Packed (slotOf σ.wk ⟨n.val + 1, by omega⟩) (window I.kp I.k (n.val + 1))) :
    Tr (U := U) d R defs 𝒱 E σ (Win.scoreStep R i n g) (fun _ σ' => ∃ X : S2x448x256.Idx → F .f32, σ' = { σ with sa := X }
      ∧ ∀ (s : Fin 2) (a : Fin 448) (b : Fin 256), X (ix3 s a b) = if s.val = i % 2 then scoreT I n g (ix2 a b) else σ.sa (ix3 s a b)) := by
  unfold Win.scoreStep
  refine Tr.groupRows_k n g h0 h1 ?_
  refine Tr.bind (Tr.queryRows hq n g 0 (by omega)) ?_
  rintro l0 σ₁ ⟨rfl, e0⟩
  refine Tr.bind (Tr.queryRows hq n g 1 (by omega)) ?_
  rintro l1 σ₁ ⟨rfl, e1⟩
  refine Tr.bind (Tr.queryRows hq n g 2 (by omega)) ?_
  rintro l2 σ₁ ⟨rfl, e2⟩
  refine Tr.bind (Tr.queryRows hq n g 3 (by omega)) ?_
  rintro l3 σ₁ ⟨rfl, e3⟩
  refine Tr.bind (Tr.queryRows hq n g 4 (by omega)) ?_
  rintro l4 σ₁ ⟨rfl, e4⟩
  refine Tr.bind (Tr.queryRows hq n g 5 (by omega)) ?_
  rintro l5 σ₁ ⟨rfl, e5⟩
  refine Tr.bind (Tr.queryRows hq n g 6 (by omega)) ?_
  rintro l6 σ₁ ⟨rfl, e6⟩
  have hall : stack7 l0 l1 l2 l3 l4 l5 l6 = qall I n g := by
    rw [e0, e1, e2, e3, e4, e5, e6]; rfl
  rw [hall]
  refine (Tr.steps (fun K σ' => ∃ X : S2x448x256.Idx → F .f32, σ' = { σ₁ with sa := X }
      ∧ ∀ (s : Fin 2) (a : Fin 448) (b : Fin 256), X (ix3 s a b) = if s.val = i % 2 ∧ a.val < K * 64 then scoreT I n g (ix2 a b) else σ₁.sa (ix3 s a b))
    ⟨σ₁.sa, rfl, fun s a b => (if_neg (by omega)).symm⟩ ?_).mono ?_
  · rintro r _ ⟨X, rfl, hX⟩
    refine Tr.bind (Tr.stv (cell_sa d R)) ?_
    rintro - _ rfl
    refine (Tr.stv (cell_sa d R)).mono ?_
    rintro - _ rfl
    refine ⟨_, rfl, fun s a b => ?_⟩
    have hr := r.isLt
    by_cases hs : s.val = i % 2 ∧ a.val / 64 = r.val
    · rw [if_pos (by omega)]
      by_cases hb : b.val < 128
      · refine (ov3_out (l := 2) (m := 448) (n := 256) (r := 1) (s := 64) (t := 128) (a := i % 2) (b := r.val * 64) (c := 128) _ _ _ s a b (by omega)).trans ?_
        refine (ov3_in (l := 2) (m := 448) (n := 256) (r := 1) (s := 64) (t := 128) (a := i % 2) (b := r.val * 64) (c := 0) _ _ _ s a b (0 : Fin 1)
          (⟨a.val % 64, by omega⟩ : Fin 64) (⟨b.val, hb⟩ : Fin 128) (by show s.val = i % 2 + 0; omega) (by show a.val = r.val * 64 + a.val % 64; omega) (by show b.val = 0 + b.val; omega)).trans ?_
        exact (scoreT_left n g r ⟨a.val % 64, by omega⟩ a b hb (by show a.val = r.val * 64 + a.val % 64; omega)).symm
      · have hb' := b.isLt
        refine (ov3_in (l := 2) (m := 448) (n := 256) (r := 1) (s := 64) (t := 128) (a := i % 2) (b := r.val * 64) (c := 128) _ _ _ s a b (0 : Fin 1)
          (⟨a.val % 64, by omega⟩ : Fin 64) (⟨b.val - 128, by omega⟩ : Fin 128) (by show s.val = i % 2 + 0; omega) (by show a.val = r.val * 64 + a.val % 64; omega)
          (by show b.val = 128 + (b.val - 128); omega)).trans ?_
        exact (scoreT_right n g r ⟨a.val % 64, by omega⟩ ⟨b.val - 128, by omega⟩ a b (by show b.val = 128 + (b.val - 128); omega)
          (by show a.val = r.val * 64 + a.val % 64; omega)).symm
    · refine (ov3_out (l := 2) (m := 448) (n := 256) (r := 1) (s := 64) (t := 128) (a := i % 2) (b := r.val * 64) (c := 128) _ _ _ s a b (by omega)).trans ?_
      refine (ov3_out (l := 2) (m := 448) (n := 256) (r := 1) (s := 64) (t := 128) (a := i % 2) (b := r.val * 64) (c := 0) _ _ _ s a b (by omega)).trans ?_
      refine (hX s a b).trans ?_
      by_cases hc : s.val = i % 2 ∧ a.val < r.val * 64
      · rw [if_pos hc, if_pos (by omega)]
      · rw [if_neg hc, if_neg (by omega)]
  · rintro - _ ⟨X, rfl, hX⟩
    refine ⟨X, rfl, fun s a b => (hX s a b).trans ?_⟩
    have ha := a.isLt
    by_cases hc : s.val = i % 2
    · rw [if_pos (by omega), if_pos hc]
    · rw [if_neg (by omega), if_neg hc]

/-! ## Weights -/

set_option maxHeartbeats 2000000 in
/-- One item's codes go to their slots; the other slots stay. -/
theorem Tr.weightStep {σ : Mem F} (i : ℕ) (n : ℕ) (g : Fin 8) (hqs : σ.qs = I.qs) (hks : σ.ks = I.ks)
    (hsa : ∀ (s : Fin 2) (a : Fin 448) (b : Fin 256), s.val = i % 2 → σ.sa (ix3 s a b) = scoreT I n g (ix2 a b)) :
    Tr (U := U) d R defs 𝒱 E σ (Win.weightStep R (invps (I.ps (ix1 (0 : Fin 1)))) i g)
      (fun _ σ' => ∃ (X : S2x448x256.Idx → F .fp8e4m3) (Y : S2x448x128.Idx → F .fp8e4m3), σ' = { σ with p1 := X, p2 := Y }
      ∧ (∀ (s : Fin 2) (a : Fin 448) (b : Fin 256), X (ix3 s a b) = if s.val = i % 2 then p1T I n g (ix2 a b) else σ.p1 (ix3 s a b))
      ∧ ∀ (s : Fin 2) (a : Fin 448) (b : Fin 128), Y (ix3 s a b) = if s.val = i % 2 then p2T I n g (ix2 a b) else σ.p2 (ix3 s a b)) := by
  unfold Win.weightStep
  refine (Tr.steps (fun K σ' => ∃ (X : S2x448x256.Idx → F .fp8e4m3) (Y : S2x448x128.Idx → F .fp8e4m3), σ' = { σ with p1 := X, p2 := Y }
      ∧ (∀ (s : Fin 2) (a : Fin 448) (b : Fin 256), X (ix3 s a b) = if s.val = i % 2 ∧ a.val < K * 64 then p1T I n g (ix2 a b) else σ.p1 (ix3 s a b))
      ∧ ∀ (s : Fin 2) (a : Fin 448) (b : Fin 128), Y (ix3 s a b) = if s.val = i % 2 ∧ a.val < K * 64 then p2T I n g (ix2 a b) else σ.p2 (ix3 s a b))
    ⟨σ.p1, σ.p2, rfl, fun s a b => (if_neg (by omega)).symm, fun s a b => (if_neg (by omega)).symm⟩ ?_).mono ?_
  · rintro r _ ⟨X, Y, rfl, hX, hY⟩
    have hr := r.isLt
    refine Tr.bind (Tr.smem (cell_qs d R) (x := ix1 (0 : Fin 1))) ?_
    rintro qs _ ⟨rfl, eqs⟩
    refine Tr.bind (Tr.smem (cell_ks d R) (x := ix1 (0 : Fin 1))) ?_
    rintro ks _ ⟨rfl, eks⟩
    refine Tr.bind (Tr.load (cell_sa d R)) ?_
    rintro s _ ⟨rfl, es⟩
    have hs : s = srow I n g r := by
      rw [es]
      funext j
      have h0 : (j 0).val < 1 := (j 0).isLt
      have h1 : (j 1).val < 64 := (j 1).isLt
      refine (congrArg σ.sa ?_).trans (hsa (⟨i % 2, by omega⟩ : Fin 2) (⟨r.val * 64 + (j 1).val, by omega⟩ : Fin 448) (j 2 : Fin 256) rfl)
      funext dd
      match dd with
      | ⟨0, _⟩ => exact Fin.ext (by show i % 2 + 1 * (j 0).val = i % 2; omega)
      | ⟨1, _⟩ => exact Fin.ext (by show r.val * 64 + 1 * (j 1).val = r.val * 64 + (j 1).val; omega)
      | ⟨2, _⟩ => exact Fin.ext (by show 0 + 1 * (j 2).val = (j 2).val; omega)
    have hq : qs = I.qs (ix1 (⟨g.val * 7 + r.val, by omega⟩ : Fin 56)) := by
      rw [eqs, ← hqs]
      refine congrArg σ.qs ?_
      funext dd
      match dd with
      | ⟨0, _⟩ => exact Fin.ext (by show g.val * 7 + r.val + 1 * 0 = g.val * 7 + r.val; omega)
    have hk : ks = I.ks (ix1 g) := by
      rw [eks, ← hks]
      refine congrArg σ.ks ?_
      funext dd
      match dd with
      | ⟨0, _⟩ => exact Fin.ext (by show g.val + 1 * 0 = g.val; omega)
    have hw : weights (invps (I.ps (ix1 (0 : Fin 1)))) qs ks s = wrow I n g r := by rw [hs, hq, hk]; rfl
    rw [hw]
    refine Tr.bind (Tr.stv (cell_p1 d R)) ?_
    rintro - _ rfl
    refine Tr.bind (Tr.stv (cell_p1 d R)) ?_
    rintro - _ rfl
    refine (Tr.stv (cell_p2 d R)).mono ?_
    rintro - _ rfl
    refine ⟨_, _, rfl, fun s a b => ?_, fun s a b => ?_⟩
    · by_cases hs : s.val = i % 2 ∧ a.val / 64 = r.val
      · rw [if_pos (by omega)]
        by_cases hb : b.val < 128
        · refine (ov3_out (l := 2) (m := 448) (n := 256) (r := 1) (s := 64) (t := 128) (a := i % 2) (b := r.val * 64) (c := 128) _ _ _ s a b (by omega)).trans ?_
          refine (ov3_in (l := 2) (m := 448) (n := 256) (r := 1) (s := 64) (t := 128) (a := i % 2) (b := r.val * 64) (c := 0) _ _ _ s a b (0 : Fin 1)
            (⟨a.val % 64, by omega⟩ : Fin 64) (⟨b.val, hb⟩ : Fin 128) (by show s.val = i % 2 + 0; omega) (by show a.val = r.val * 64 + a.val % 64; omega) (by show b.val = 0 + b.val; omega)).trans ?_
          exact (p1T_left n g r ⟨a.val % 64, by omega⟩ a b hb (by show a.val = r.val * 64 + a.val % 64; omega)).symm
        · have hb' := b.isLt
          refine (ov3_in (l := 2) (m := 448) (n := 256) (r := 1) (s := 64) (t := 128) (a := i % 2) (b := r.val * 64) (c := 128) _ _ _ s a b (0 : Fin 1)
            (⟨a.val % 64, by omega⟩ : Fin 64) (⟨b.val - 128, by omega⟩ : Fin 128) (by show s.val = i % 2 + 0; omega) (by show a.val = r.val * 64 + a.val % 64; omega)
            (by show b.val = 128 + (b.val - 128); omega)).trans ?_
          exact (p1T_right n g r ⟨a.val % 64, by omega⟩ ⟨b.val - 128, by omega⟩ a b (by show b.val = 128 + (b.val - 128); omega)
            (by show a.val = r.val * 64 + a.val % 64; omega)).symm
      · refine (ov3_out (l := 2) (m := 448) (n := 256) (r := 1) (s := 64) (t := 128) (a := i % 2) (b := r.val * 64) (c := 128) _ _ _ s a b (by omega)).trans ?_
        refine (ov3_out (l := 2) (m := 448) (n := 256) (r := 1) (s := 64) (t := 128) (a := i % 2) (b := r.val * 64) (c := 0) _ _ _ s a b (by omega)).trans ?_
        refine (hX s a b).trans ?_
        by_cases hc : s.val = i % 2 ∧ a.val < r.val * 64
        · rw [if_pos hc, if_pos (by omega)]
        · rw [if_neg hc, if_neg (by omega)]
    · have hb := b.isLt
      by_cases hs : s.val = i % 2 ∧ a.val / 64 = r.val
      · rw [if_pos (by omega)]
        refine (ov3_in (l := 2) (m := 448) (n := 128) (r := 1) (s := 64) (t := 128) (a := i % 2) (b := r.val * 64) (c := 0) _ _ _ s a b (0 : Fin 1)
          (⟨a.val % 64, by omega⟩ : Fin 64) b (by show s.val = i % 2 + 0; omega) (by show a.val = r.val * 64 + a.val % 64; omega) (by omega)).trans ?_
        exact (p2T_at n g r ⟨a.val % 64, by omega⟩ a b (by show a.val = r.val * 64 + a.val % 64; omega)).symm
      · refine (ov3_out (l := 2) (m := 448) (n := 128) (r := 1) (s := 64) (t := 128) (a := i % 2) (b := r.val * 64) (c := 0) _ _ _ s a b (by omega)).trans ?_
        refine (hY s a b).trans ?_
        by_cases hc : s.val = i % 2 ∧ a.val < r.val * 64
        · rw [if_pos hc, if_pos (by omega)]
        · rw [if_neg hc, if_neg (by omega)]
  · rintro - _ ⟨X, Y, rfl, hX, hY⟩
    refine ⟨X, Y, rfl, fun s a b => (hX s a b).trans ?_, fun s a b => (hY s a b).trans ?_⟩
    all_goals
      have ha := a.isLt
      by_cases hc : s.val = i % 2
      · rw [if_pos (by omega), if_pos hc]
      · rw [if_neg (by omega), if_neg hc]

/-! ## Results -/

set_option maxHeartbeats 2000000 in
/-- One item's results go to their rows and columns; the others stay. -/
theorem Tr.sumStep {σ : Mem F} (i : ℕ) (n : Fin 2) (g : Fin 8) (hvs : σ.vs = I.vs)
    (h0 : Packed (slotOf σ.wv ⟨n.val, by omega⟩) (window I.vp I.v n.val))
    (h1 : Packed (slotOf σ.wv ⟨n.val + 1, by omega⟩) (window I.vp I.v (n.val + 1)))
    (hp1 : ∀ (s : Fin 2) (a : Fin 448) (b : Fin 256), s.val = i % 2 → σ.p1 (ix3 s a b) = p1T I n g (ix2 a b))
    (hp2 : ∀ (s : Fin 2) (a : Fin 448) (b : Fin 128), s.val = i % 2 → σ.p2 (ix3 s a b) = p2T I n g (ix2 a b)) :
    Tr (U := U) d R defs 𝒱 E σ (Win.sumStep R (I.ps (ix1 (0 : Fin 1))) i n g)
      (fun _ σ' => ∃ X : S256x7168.Idx → F .bf16, σ' = { σ with o := X }
      ∧ ∀ (x : Fin 256) (y : Fin 7168), X (ix2 x y) = if x.val / 128 = n.val ∧ y.val / 128 / 7 = g.val then outT I (ix2 x y) else σ.o (ix2 x y)) := by
  unfold Win.sumStep
  refine Tr.groupRows_v n g h0 h1 ?_
  refine Tr.bind (Tr.load (cell_p1 d R)) ?_
  rintro x1 σ₁ ⟨rfl, e1⟩
  refine Tr.bind (Tr.load (cell_p2 d R)) ?_
  rintro x2 σ₁ ⟨rfl, e2⟩
  refine Tr.bind (Tr.load (cell_vs d R)) ?_
  rintro vs σ₁ ⟨rfl, e3⟩
  have f1 : x1 = fun j => p1T I n g (ix2 (j 1 : Fin 448) (j 2 : Fin 256)) := by
    rw [e1]
    funext j
    have h0 : (j 0).val < 1 := (j 0).isLt
    refine (congrArg σ₁.p1 ?_).trans (hp1 (⟨i % 2, by omega⟩ : Fin 2) (j 1 : Fin 448) (j 2 : Fin 256) rfl)
    funext dd
    match dd with
    | ⟨0, _⟩ => exact Fin.ext (by show i % 2 + 1 * (j 0).val = i % 2; omega)
    | ⟨1, _⟩ => exact Fin.ext (by show 0 + 1 * (j 1).val = (j 1).val; omega)
    | ⟨2, _⟩ => exact Fin.ext (by show 0 + 1 * (j 2).val = (j 2).val; omega)
  have f2 : x2 = fun j => p2T I n g (ix2 (j 1 : Fin 448) (j 2 : Fin 128)) := by
    rw [e2]
    funext j
    have h0 : (j 0).val < 1 := (j 0).isLt
    refine (congrArg σ₁.p2 ?_).trans (hp2 (⟨i % 2, by omega⟩ : Fin 2) (j 1 : Fin 448) (j 2 : Fin 128) rfl)
    funext dd
    match dd with
    | ⟨0, _⟩ => exact Fin.ext (by show i % 2 + 1 * (j 0).val = i % 2; omega)
    | ⟨1, _⟩ => exact Fin.ext (by show 0 + 1 * (j 1).val = (j 1).val; omega)
    | ⟨2, _⟩ => exact Fin.ext (by show 0 + 1 * (j 2).val = (j 2).val; omega)
  have f3 : vs = fun j => I.vs (ix2 g (j 1 : Fin 128)) := by
    rw [e3, ← hvs]
    funext j
    have h0 : (j 0).val < 1 := (j 0).isLt
    refine congrArg σ₁.vs ?_
    funext dd
    match dd with
    | ⟨0, _⟩ => exact Fin.ext (by show g.val + 1 * (j 0).val = g.val; omega)
    | ⟨1, _⟩ => exact Fin.ext (by show 0 + 1 * (j 1).val = (j 1).val; omega)
  have hval : ∀ r c, outBlock (sums x1 x2 (stack (diag (headR (window I.vp I.v n.val) g.val 64) (headR (window I.vp I.v (n.val + 1)) g.val 0))
      (diag (headR (window I.vp I.v (n.val + 1)) g.val 0) (headR (window I.vp I.v (n.val + 1)) g.val 64)))
      (diag (headR (window I.vp I.v n.val) g.val 0) (headR (window I.vp I.v n.val) g.val 64))) (outscale (I.ps (ix1 (0 : Fin 1))) vs) r c = outR I n g r c := by
    intro r c; rw [f1, f2, f3]; rfl
  simp only [hval]
  let J : ℕ → Mem F → Prop := fun K σ' => ∃ X : S256x7168.Idx → F .bf16, σ' = { σ₁ with o := X }
      ∧ ∀ (x : Fin 256) (y : Fin 7168), X (ix2 x y) = if (x.val / 128 = n.val ∧ y.val / 128 / 7 = g.val) ∧ (y.val / 128 % 7) * 2 + x.val / 64 % 2 < K
        then outT I (ix2 x y) else σ₁.o (ix2 x y)
  refine (Tr.steps (fun r => J (r * 2)) ⟨σ₁.o, rfl, fun x y => (if_neg (by omega)).symm⟩ ?_).mono ?_
  · intro r σ₁ hσ₁
    refine (Tr.steps (fun c => J (r.val * 2 + c)) hσ₁ ?_).mono ?_
    · rintro c _ ⟨X, rfl, hX⟩
      refine (Tr.stv (cell_o d R)).mono ?_
      rintro - _ rfl
      refine ⟨_, rfl, fun x y => ?_⟩
      have hr := r.isLt
      have hc := c.isLt
      have hn := n.isLt
      by_cases hin : (x.val / 128 = n.val ∧ y.val / 128 / 7 = g.val) ∧ y.val / 128 % 7 = r.val ∧ x.val / 64 % 2 = c.val
      · rw [if_pos (by omega)]
        have ha : x.val = (n.val * 2 + c.val) * 64 + x.val % 64 := by omega
        have hb : y.val = (g.val * 7 + r.val) * 128 + y.val % 128 := by omega
        refine (ov2_in (m := 256) (n := 7168) (s := 64) (t := 128) (a := (n.val * 2 + c.val) * 64) (b := (g.val * 7 + r.val) * 128) _ _ _ x y
          (⟨x.val % 64, by omega⟩ : Fin 64) (⟨y.val % 128, by omega⟩ : Fin 128) ha hb).trans ?_
        exact (outT_at n.val g r c ⟨x.val % 64, by omega⟩ ⟨y.val % 128, by omega⟩ x y ha hb).symm
      · refine (ov2_out (m := 256) (n := 7168) (s := 64) (t := 128) (a := (n.val * 2 + c.val) * 64) (b := (g.val * 7 + r.val) * 128) _ _ _ x y (by omega)).trans ?_
        refine (hX x y).trans ?_
        by_cases hk : (x.val / 128 = n.val ∧ y.val / 128 / 7 = g.val) ∧ (y.val / 128 % 7) * 2 + x.val / 64 % 2 < r.val * 2 + c.val
        · rw [if_pos hk, if_pos (by omega)]
        · rw [if_neg hk, if_neg (by omega)]
    · intro _ σ' h
      show J ((r.val + 1) * 2) σ'
      rw [show (r.val + 1) * 2 = r.val * 2 + 2 by omega]
      exact h
  · rintro - _ ⟨X, rfl, hX⟩
    refine ⟨X, rfl, fun x y => (hX x y).trans ?_⟩
    by_cases hk : x.val / 128 = n.val ∧ y.val / 128 / 7 = g.val
    · rw [if_pos (by omega), if_pos hk]
    · rw [if_neg (by omega), if_neg hk]

end Win

end
-- ==== Proof.Body.lean ====
/-
  What the whole body does: from one block's inputs it leaves the block's results, and the block's second window
  of keys and values in the last places of the packed buffers.
-/
module

public import proofs.«01_k».proof.Proof.Items

@[expose] public section

noncomputable section

namespace Win

open Idealize.ShloMosaic hiding ix1 ix2 ix3 ix4 ix5 eq_ix1 eq_ix2 eq_ix3 eq_ix4 eq_ix5
open Idealize.ShloMosaic.ValueIdx
open Idealize.SL Idealize.SL.RA Idealize.SL.Sem

variable {nD : Nat} {τ : Topo} {sig : RefSig} {F : FTy → Type} {U : Type} [URA U] {Λ : Labels}
variable {d : Dev nD} {R : Refs sig} [FloatOps F] {defs : Defs nD τ sig (Elt F) Λ} {𝒱 : Variants} {E : Set ℕ}

/-- The buffers hold one block's inputs. -/
structure Holds (I : Inp F) (σ : Mem F) : Prop where
  qs : σ.qs = I.qs
  ks : σ.ks = I.ks
  ps : σ.ps = I.ps
  q : σ.q = I.q
  k : σ.k = I.k
  v : σ.v = I.v
  vs : σ.vs = I.vs

/-- The state between the stages: which windows are packed, which items' scores and codes are in their slots, and
    how many items have their results. -/
structure Inv (I : Inp F) (wk wv : ℕ) (S P : ℕ → Prop) (K : ℕ) (σ : Mem F) : Prop where
  inp : Holds I σ
  wq : Packed σ.wq (code3 I.q)
  wk : ∀ n : Fin 3, n.val ≤ wk → Packed (Qd := 2) (T := 128) (slotOf σ.wk n) (window I.kp I.k n.val)
  wv : ∀ n : Fin 3, n.val ≤ wv → Packed (Qd := 2) (T := 128) (slotOf σ.wv n) (window I.vp I.v n.val)
  sa : ∀ j < 16, S j → ∀ (s : Fin 2) (a : Fin 448) (b : Fin 256), s.val = j % 2 → σ.sa (ix3 s a b) = scoreT I (j / 8 % 2) (j % 8) (ix2 a b)
  p1 : ∀ j < 16, P j → ∀ (s : Fin 2) (a : Fin 448) (b : Fin 256), s.val = j % 2 →
    σ.p1 (ix3 s a b) = p1T I (j / 8 % 2) ⟨j % 8, by omega⟩ (ix2 a b)
  p2 : ∀ j < 16, P j → ∀ (s : Fin 2) (a : Fin 448) (b : Fin 128), s.val = j % 2 →
    σ.p2 (ix3 s a b) = p2T I (j / 8 % 2) ⟨j % 8, by omega⟩ (ix2 a b)
  o : ∀ (x : Fin 256) (y : Fin 7168), 8 * (x.val / 128) + y.val / 128 / 7 < K → σ.o (ix2 x y) = outT I (ix2 x y)

/-- The state asks for less when fewer things are asked. -/
theorem Inv.weaken {I : Inp F} {wk wv wk' wv' : ℕ} {S P S' P' : ℕ → Prop} {K K' : ℕ} {σ : Mem F} (h : Inv I wk wv S P K σ)
    (hw : min wk' 2 ≤ wk) (hv : min wv' 2 ≤ wv) (hS : ∀ j < 16, S' j → S j) (hP : ∀ j < 16, P' j → P j) (hK : K' ≤ K) : Inv I wk' wv' S' P' K' σ :=
  ⟨h.inp, h.wq, fun n hn => h.wk n (by omega), fun n hn => h.wv n (by omega), fun j hj s => h.sa j hj (hS j hj s),
    fun j hj s => h.p1 j hj (hP j hj s), fun j hj s => h.p2 j hj (hP j hj s), fun x y hx => h.o x y (by omega)⟩

/-- The block's windows as the packing sees them. -/
theorem code3_window {prev : Codes} {x : S256x8x128.Idx → BitVec 8} (n : Fin 2) {W : S2x128x128.Idx → BitVec 32} (h)
    (hW : Packed (Qd := 2) (T := 128) W (code3 (T := 128) (H := 8)
      (fun i => x ((Rect.unit (s := S256x8x128) ![n.val * 128, 0, 0] S128x8x128.size h).emb i)))) :
    Packed (Qd := 2) (T := 128) W (window prev x (n.val + 1)) := by
  refine Packed.congr (by omega) hW fun t ht hh hhh l hl => ?_
  rw [code3_of _ ht (by omega) hl]
  unfold window
  rw [if_neg (by omega)]
  show _ = code3 x (t + 128 * (n.val + 1 - 1)) hh l
  rw [code3_of _ (by omega) (by omega) hl]
  refine congrArg x ?_
  funext dd
  match dd with
  | ⟨0, _⟩ => exact Fin.ext (by show n.val * 128 + 1 * t = t + 128 * (n.val + 1 - 1); omega)
  | ⟨1, _⟩ => exact Fin.ext (by show 0 + 1 * hh = hh; omega)
  | ⟨2, _⟩ => exact Fin.ext (by show 0 + 1 * l = l; omega)

/-- Packing one window of keys. -/
theorem Tr.splitK {I : Inp F} {σ : Mem F} {wk wv : ℕ} {S P : ℕ → Prop} {K : ℕ} (n : Fin 2) (hn : wk = n.val) (h : Inv I wk wv S P K σ) :
    Tr (U := U) d R defs 𝒱 E σ (Win.splitKV R.k R.wk n) (fun _ => Inv I (wk + 1) wv S P K) := by
  unfold Win.splitKV
  refine (Tr.split (Cell.slice d R (cell_k d R) _ (fun _ => rfl)) (cell_wk_slot d R (n.val + 1) (by omega))
    (fun σ X => slotOf_setSlot _ _ _) (fun σ X Y => ?_) (fun σ X => rfl) _ _ (by omega) (by omega) σ).mono ?_
  · show ({ σ with wk := _ } : Mem F) = { σ with wk := _ }
    congr 1
    funext j
    show (if (j 0).val = n.val + 1 then _ else (if (j 0).val = n.val + 1 then _ else _)) = if (j 0).val = n.val + 1 then _ else _
    split
    · rfl
    · rfl
  · rintro - _ ⟨W, rfl, hW⟩
    refine ⟨⟨h.inp.qs, h.inp.ks, h.inp.ps, h.inp.q, h.inp.k, h.inp.v, h.inp.vs⟩, h.wq, fun m hm => ?_, h.wv, h.sa, h.p1, h.p2, h.o⟩
    by_cases e : m.val = n.val + 1
    · obtain rfl : m = ⟨n.val + 1, Nat.add_lt_add_right n.isLt 1⟩ := Fin.ext e
      show Packed (Qd := 2) (T := 128) (slotOf (setSlot σ.wk _ W) _) _
      rw [slotOf_setSlot, ← h.inp.k]
      exact code3_window n _ hW
    · show Packed (Qd := 2) (T := 128) (slotOf (setSlot σ.wk _ W) _) _
      rw [slotOf_setSlot_ne _ _ _ _ (fun e' => e (congrArg Fin.val e'))]
      exact h.wk m (by omega)

/-- Packing one window of values. -/
theorem Tr.splitV {I : Inp F} {σ : Mem F} {wk wv : ℕ} {S P : ℕ → Prop} {K : ℕ} (n : Fin 2) (hn : wv = n.val) (h : Inv I wk wv S P K σ) :
    Tr (U := U) d R defs 𝒱 E σ (Win.splitKV R.v R.wv n) (fun _ => Inv I wk (wv + 1) S P K) := by
  unfold Win.splitKV
  refine (Tr.split (Cell.slice d R (cell_v d R) _ (fun _ => rfl)) (cell_wv_slot d R (n.val + 1) (by omega))
    (fun σ X => slotOf_setSlot _ _ _) (fun σ X Y => ?_) (fun σ X => rfl) _ _ (by omega) (by omega) σ).mono ?_
  · show ({ σ with wv := _ } : Mem F) = { σ with wv := _ }
    congr 1
    funext j
    show (if (j 0).val = n.val + 1 then _ else (if (j 0).val = n.val + 1 then _ else _)) = if (j 0).val = n.val + 1 then _ else _
    split
    · rfl
    · rfl
  · rintro - _ ⟨W, rfl, hW⟩
    refine ⟨⟨h.inp.qs, h.inp.ks, h.inp.ps, h.inp.q, h.inp.k, h.inp.v, h.inp.vs⟩, h.wq, h.wk, fun m hm => ?_, h.sa, h.p1, h.p2, h.o⟩
    by_cases e : m.val = n.val + 1
    · obtain rfl : m = ⟨n.val + 1, Nat.add_lt_add_right n.isLt 1⟩ := Fin.ext e
      show Packed (Qd := 2) (T := 128) (slotOf (setSlot σ.wv _ W) _) _
      rw [slotOf_setSlot, ← h.inp.v]
      exact code3_window n _ hW
    · show Packed (Qd := 2) (T := 128) (slotOf (setSlot σ.wv _ W) _) _
      rw [slotOf_setSlot_ne _ _ _ _ (fun e' => e (congrArg Fin.val e'))]
      exact h.wv m (by omega)

/-- One step of the pipeline. -/
theorem Tr.pipeStep {I : Inp F} {σ : Mem F} (i : Fin 18)
    (h : Inv I ((i.val + 7) / 8) ((i.val + 7) / 8) (fun j => j + 1 = i.val) (fun j => j + 2 = i.val) (i.val - 2) σ) :
    Tr (U := U) d R defs 𝒱 E σ (Win.pipeStep R (invps (I.ps (ix1 (0 : Fin 1)))) (I.ps (ix1 (0 : Fin 1))) i)
      (fun _ => Inv I ((i.val + 1 + 7) / 8) ((i.val + 1 + 7) / 8) (fun j => j + 1 = i.val + 1) (fun j => j + 2 = i.val + 1) (i.val + 1 - 2)) := by
  have hi := i.isLt
  unfold Win.pipeStep
  refine Tr.bind (Q' := fun _ => Inv I ((i.val + 8) / 8) ((i.val + 8) / 8) (fun j => j + 1 = i.val) (fun j => j + 2 = i.val) (i.val - 2)) ?_ ?_
  · by_cases hs : i.val = 0 ∨ i.val = 8
    · rw [if_pos hs]
      have e : (i.val + 7) / 8 = i.val / 8 % 2 := by omega
      refine Tr.bind (Tr.splitK ⟨i.val / 8 % 2, by omega⟩ e h) ?_
      intro _ σ₁ h₁
      refine (Tr.splitV ⟨i.val / 8 % 2, by omega⟩ e h₁).mono ?_
      intro _ σ₂ h₂
      exact h₂.weaken (by omega) (by omega) (fun _ _ => id) (fun _ _ => id) le_rfl
    · rw [if_neg hs]
      exact Tr.ret (h.weaken (by omega) (by omega) (fun _ _ => id) (fun _ _ => id) le_rfl)
  intro _ σ₁ h₁
  refine Tr.bind (Q' := fun _ => Inv I ((i.val + 8) / 8) ((i.val + 8) / 8) (fun j => j = i.val ∨ j + 1 = i.val) (fun j => j + 2 = i.val) (i.val - 2)) ?_ ?_
  · by_cases hs : i.val < 16
    · rw [if_pos hs]
      refine (Tr.scoreStep (I := I) i.val ⟨i.val / 8 % 2, by omega⟩ ⟨i.val % 8, by omega⟩ h₁.wq (h₁.wk _ (by show i.val / 8 % 2 ≤ _; omega))
        (h₁.wk _ (by show i.val / 8 % 2 + 1 ≤ _; omega))).mono ?_
      rintro - _ ⟨X, rfl, hX⟩
      refine ⟨⟨h₁.inp.qs, h₁.inp.ks, h₁.inp.ps, h₁.inp.q, h₁.inp.k, h₁.inp.v, h₁.inp.vs⟩, h₁.wq, h₁.wk, h₁.wv, ?_, h₁.p1, h₁.p2, h₁.o⟩
      rintro j hj (rfl | hj') s a b hsj
      · exact (hX s a b).trans (if_pos hsj)
      · exact ((hX s a b).trans (if_neg (by omega))).trans (h₁.sa j hj hj' s a b hsj)
    · rw [if_neg hs]
      exact Tr.ret (h₁.weaken (min_le_left _ _) (min_le_left _ _) (fun j hj h => by omega) (fun _ _ => id) le_rfl)
  intro _ σ₂ h₂
  refine Tr.bind (Q' := fun _ => Inv I ((i.val + 8) / 8) ((i.val + 8) / 8) (fun j => j = i.val) (fun j => j + 1 = i.val ∨ j + 2 = i.val) (i.val - 2)) ?_ ?_
  · by_cases hs : 1 ≤ i.val ∧ i.val ≤ 16
    · rw [if_pos hs]
      refine (Tr.weightStep (I := I) (i.val - 1) ((i.val - 1) / 8 % 2) ⟨(i.val - 1) % 8, by omega⟩ h₂.inp.qs h₂.inp.ks
        (fun s a b hs' => h₂.sa (i.val - 1) (by omega) (.inr (by omega)) s a b hs')).mono ?_
      rintro - _ ⟨X, Y, rfl, hX, hY⟩
      refine ⟨⟨h₂.inp.qs, h₂.inp.ks, h₂.inp.ps, h₂.inp.q, h₂.inp.k, h₂.inp.v, h₂.inp.vs⟩, h₂.wq, h₂.wk, h₂.wv, fun j hj hji => h₂.sa j hj (.inl hji), ?_, ?_, h₂.o⟩
      · rintro j hj (hj' | hj') s a b hsj
        · obtain rfl : j = i.val - 1 := by omega
          exact (hX s a b).trans (if_pos hsj)
        · exact ((hX s a b).trans (if_neg (by omega))).trans (h₂.p1 j hj hj' s a b hsj)
      · rintro j hj (hj' | hj') s a b hsj
        · obtain rfl : j = i.val - 1 := by omega
          exact (hY s a b).trans (if_pos hsj)
        · exact ((hY s a b).trans (if_neg (by omega))).trans (h₂.p2 j hj hj' s a b hsj)
    · rw [if_neg hs]
      exact Tr.ret (h₂.weaken (min_le_left _ _) (min_le_left _ _) (fun j hj h => .inl h) (fun j hj h => by omega) le_rfl)
  intro _ σ₃ h₃
  by_cases hs : 2 ≤ i.val
  · rw [if_pos hs]
    refine (Tr.sumStep (I := I) (i.val - 2) ⟨(i.val - 2) / 8 % 2, by omega⟩ ⟨(i.val - 2) % 8, by omega⟩ h₃.inp.vs (h₃.wv _ (by show (i.val - 2) / 8 % 2 ≤ _; omega))
      (h₃.wv _ (by show (i.val - 2) / 8 % 2 + 1 ≤ _; omega))
      (fun s a b hs' => h₃.p1 (i.val - 2) (by omega) (.inr (by omega)) s a b hs')
      (fun s a b hs' => h₃.p2 (i.val - 2) (by omega) (.inr (by omega)) s a b hs')).mono ?_
    rintro - _ ⟨X, rfl, hX⟩
    refine ⟨⟨h₃.inp.qs, h₃.inp.ks, h₃.inp.ps, h₃.inp.q, h₃.inp.k, h₃.inp.v, h₃.inp.vs⟩, h₃.wq, fun n hn => h₃.wk n (by omega), fun n hn => h₃.wv n (by omega),
      fun j hj hj' => h₃.sa j hj (by omega), fun j hj hj' => h₃.p1 j hj (.inl (by omega)), fun j hj hj' => h₃.p2 j hj (.inl (by omega)), fun x y hxy => ?_⟩
    refine (hX x y).trans ?_
    by_cases hc : x.val / 128 = (i.val - 2) / 8 % 2 ∧ y.val / 128 / 7 = (i.val - 2) % 8
    · exact if_pos hc
    · refine (if_neg hc).trans (h₃.o x y ?_)
      have := x.isLt
      have := y.isLt
      omega
  · rw [if_neg hs]
    exact Tr.ret (h₃.weaken (by omega) (by omega) (fun j hj h => by omega) (fun j hj h => by omega) (by omega))

/-- A window just written packs what was written. -/
theorem packed_set {X : S3x2x128x128.Idx → BitVec 32} {n : Fin 3} {Y : S2x128x128.Idx → BitVec 32} {c : Codes} (h : Packed (Qd := 2) (T := 128) Y c) :
    Packed (Qd := 2) (T := 128) (slotOf (setSlot X n Y) n) c := by
  rw [slotOf_setSlot]; exact h

/-- Zeroed words pack zero codes. -/
theorem packed_zero {Qd T : ℕ} : Packed (fun _ : (⟨3, ![Qd, T, 128]⟩ : Shape).Idx => (0#32 : BitVec 32)) (fun _ _ _ => 0) := by
  intro i t l q hq
  simp

/-- Zeroing the last window of keys. -/
theorem Tr.clearK {σ : Mem F} : Tr (U := U) d R defs 𝒱 E σ (Win.clear R.wk) (fun _ σ' => σ' = { σ with wk := setSlot σ.wk 2 (fun _ => 0#32) }) := by
  unfold Win.clear
  refine (Tr.stv (cell_wk d R)).mono ?_
  rintro - _ rfl
  exact congrArg (fun X => { σ with wk := X }) (overlay_slot σ.wk 2 (by omega) _)

/-- Zeroing the last window of values. -/
theorem Tr.clearV {σ : Mem F} : Tr (U := U) d R defs 𝒱 E σ (Win.clear R.wv) (fun _ σ' => σ' = { σ with wv := setSlot σ.wv 2 (fun _ => 0#32) }) := by
  unfold Win.clear
  refine (Tr.stv (cell_wv d R)).mono ?_
  rintro - _ rfl
  exact congrArg (fun X => { σ with wv := X }) (overlay_slot σ.wv 2 (by omega) _)

/-- The last window, moved with its leading axis dropped and put back, is itself. -/
theorem carried (X : S3x2x128x128.Idx → BitVec 32) (h₁ h₂) :
    (fun j : S2x128x128.Idx => shapeCast S1x2x128x128 (shapeCast S2x128x128 (fun j : S1x2x128x128.Idx => X ((slotRect 2 (by omega)).emb j)) h₁) h₂
      (ix4 (0 : Fin 1) (j 0 : Fin 2) (j 1 : Fin 128) (j 2 : Fin 128))) = slotOf X 2 := by
  funext j
  refine (shapeCast_abc_1abc_apply _ h₂ (0 : Fin 1) (j 0 : Fin 2) (j 1 : Fin 128) (j 2 : Fin 128)).trans ?_
  refine (shapeCast_1abc_abc_apply _ h₁ (j 0 : Fin 2) (j 1 : Fin 128) (j 2 : Fin 128)).trans ?_
  refine congrArg X ?_
  funext d
  match d with
  | ⟨0, _⟩ => exact Fin.ext (by show 2 + 1 * 0 = 2; omega)
  | ⟨1, _⟩ => exact Fin.ext (by show 0 + 1 * (j 0).val = (j 0).val; omega)
  | ⟨2, _⟩ => exact Fin.ext (by show 0 + 1 * (j 1).val = (j 1).val; omega)
  | ⟨3, _⟩ => exact Fin.ext (by show 0 + 1 * (j 2).val = (j 2).val; omega)

/-- Moving the last window of keys to the first place. -/
theorem Tr.carryK {σ : Mem F} : Tr (U := U) d R defs 𝒱 E σ (Win.carry R.wk) (fun _ σ' => σ' = { σ with wk := setSlot σ.wk 0 (slotOf σ.wk 2) }) := by
  unfold Win.carry
  refine Tr.bind (Tr.load (cell_wk d R)) ?_
  rintro x σ₁ ⟨rfl, rfl⟩
  refine (Tr.stv (cell_wk d R)).mono ?_
  rintro - _ rfl
  exact congrArg (fun X => { σ₁ with wk := X }) ((overlay_slot σ₁.wk 0 (by omega) _).trans (congrArg (setSlot σ₁.wk 0) (carried σ₁.wk _ _)))

/-- Moving the last window of values to the first place. -/
theorem Tr.carryV {σ : Mem F} : Tr (U := U) d R defs 𝒱 E σ (Win.carry R.wv) (fun _ σ' => σ' = { σ with wv := setSlot σ.wv 0 (slotOf σ.wv 2) }) := by
  unfold Win.carry
  refine Tr.bind (Tr.load (cell_wv d R)) ?_
  rintro x σ₁ ⟨rfl, rfl⟩
  refine (Tr.stv (cell_wv d R)).mono ?_
  rintro - _ rfl
  exact congrArg (fun X => { σ₁ with wv := X }) ((overlay_slot σ₁.wv 0 (by omega) _).trans (congrArg (setSlot σ₁.wv 0) (carried σ₁.wv _ _)))

/-- The body leaves the block's results and the block's second window. -/
theorem Tr.body {I : Inp F} {σ : Mem F} (i : ℕ) (h : Holds I σ) (hs : startWord i = 1#1 → I.kp = (fun _ _ _ => 0) ∧ I.vp = (fun _ _ _ => 0))
    (hc : ¬ startWord i = 1#1 → Packed (Qd := 2) (T := 128) (slotOf σ.wk 2) I.kp ∧ Packed (Qd := 2) (T := 128) (slotOf σ.wv 2) I.vp) :
    Tr (U := U) d R defs 𝒱 E σ (Win.body R i) (fun _ σ' => Holds I σ' ∧ σ'.o = outT I
      ∧ Packed (Qd := 2) (T := 128) (slotOf σ'.wk 2) (window I.kp I.k 2) ∧ Packed (Qd := 2) (T := 128) (slotOf σ'.wv 2) (window I.vp I.v 2)) := by
  unfold Win.body
  refine Tr.bind (Q' := fun _ σ' => Holds I σ' ∧ Packed (Qd := 2) (T := 128) (slotOf σ'.wk 2) I.kp ∧ Packed (Qd := 2) (T := 128) (slotOf σ'.wv 2) I.vp) ?_ ?_
  · by_cases hw : startWord i = 1#1
    · rw [if_pos hw]
      refine Tr.bind Tr.clearK ?_
      rintro - _ rfl
      refine Tr.clearV.mono ?_
      rintro - _ rfl
      refine ⟨⟨h.qs, h.ks, h.ps, h.q, h.k, h.v, h.vs⟩, ?_, ?_⟩
      · rw [(hs hw).1]
        exact packed_set packed_zero
      · rw [(hs hw).2]
        exact packed_set packed_zero
    · rw [if_neg hw]
      exact Tr.ret ⟨h, hc hw⟩
  rintro - σ₁ ⟨h, hk, hv⟩
  refine Tr.bind Tr.carryK ?_
  rintro - _ rfl
  refine Tr.bind Tr.carryV ?_
  rintro - _ rfl
  refine Tr.bind (Tr.split (cell_q d R) (cell_wq d R) (fun _ _ => rfl) (fun _ _ _ => rfl) (fun _ _ => rfl) _ _ (by omega) (by omega) _) ?_
  rintro - _ ⟨W, rfl, hW⟩
  refine Tr.bind (Tr.smem (cell_ps d R) (x := ix1 (0 : Fin 1))) ?_
  rintro ps σ₂ ⟨rfl, e⟩
  have hps : ps = I.ps (ix1 (0 : Fin 1)) := by
    rw [e, ← h.ps]
    refine congrArg σ₁.ps ?_
    funext dd
    match dd with
    | ⟨0, _⟩ => exact Fin.ext (by show 0 + 1 * 0 = 0; omega)
  rw [hps]
  refine (Tr.steps (fun j => Inv I ((j + 7) / 8) ((j + 7) / 8) (fun t => t + 1 = j) (fun t => t + 2 = j) (j - 2)) ?_ (fun i σ' h' => Tr.pipeStep i h')).mono ?_
  · refine ⟨⟨h.qs, h.ks, h.ps, h.q, h.k, h.v, h.vs⟩, ?_, ?_, ?_, ?_, ?_, ?_, ?_⟩
    · rw [← h.q]; exact hW
    · intro n hn
      obtain rfl : n = 0 := Fin.ext (by show n.val = 0; omega)
      exact packed_set hk
    · intro n hn
      obtain rfl : n = 0 := Fin.ext (by show n.val = 0; omega)
      exact packed_set hv
    · intro j _ hj; omega
    · intro j _ hj; omega
    · intro j _ hj; omega
    · intro x y hxy; omega
  · intro _ σ' h'
    refine ⟨h'.inp, ?_, h'.wk 2 (by decide), h'.wv 2 (by decide)⟩
    have main : ∀ (x : Fin 256) (y : Fin 7168), σ'.o (ix2 x y) = outT I (ix2 x y) := fun x y => h'.o x y (by have := x.isLt; have := y.isLt; omega)
    funext j
    rw [eq_ix2 j]
    exact main _ _

end Win

end
-- ==== Proof.Feed.lean ====
/-
  Two long straight-line programs are compared piece by piece.

  A program of loads and stores is run against an oracle that answers its loads: `feed n` is what is left of
  the program after `n` operations, and `trace n` lists its first `n` operations. Two programs with equal
  traces under every oracle, up to the end of the first, are equal (`eq_of_trace`).
-/
module

public import Idealize.ShloMosaic.Lib.Pipeline
public import Idealize.ShloMosaic.PureOps

@[expose] public section

noncomputable section

namespace Win

open Idealize.ShloMosaic Idealize.SL.Sem

section

variable {F : FTy → Type} {nD : ℕ} {τ : Topo} {sig : RefSig} {Λ : Labels}

/-- Answers to the loads of a program, by their place. -/
abbrev Oracle (F : FTy → Type) : Type := ℕ → (s : Shape) → (e : EltTy) → s.Idx → Elt F e

/-- The answer to the `j`th operation; none for an operation that is neither a load nor a store. -/
def answer (ans : Oracle F) (j : ℕ) {β : Type} (e : TpuEff nD τ sig (Elt F) Λ .tc β) : Option β :=
  match e with
  | .load (e := e) _ r _ => some (ans j r.shape e)
  | .store _ _ _ _ _ _ => some ⟨⟩
  | _ => none

/-- What is left of a program after `n` operations, the first of which is the `j`th. -/
def feed (ans : Oracle F) : ℕ → ℕ → Prog (TpuEff nD τ sig (Elt F) Λ .tc) PUnit → Option (Prog (TpuEff nD τ sig (Elt F) Λ .tc) PUnit)
  | 0, _, p => some p
  | n + 1, j, p => match p with
    | .ret _ => none
    | .op e k => match answer ans j e with
      | none => none
      | some a => feed ans n (j + 1) (k a)

/-- The first `n` operations of a program, with `none` for its end. -/
def trace (ans : Oracle F) : ℕ → ℕ → Prog (TpuEff nD τ sig (Elt F) Λ .tc) PUnit → List (Option (Σ β, TpuEff nD τ sig (Elt F) Λ .tc β))
  | 0, _, _ => []
  | n + 1, j, p => match p with
    | .ret _ => [none]
    | .op e k => some ⟨_, e⟩ :: match answer ans j e with
      | none => []
      | some a => trace ans n (j + 1) (k a)

/-- The operations of a program from the `s`th on, `n` of them. -/
def piece (ans : Oracle F) (s n : ℕ) (p : Prog (TpuEff nD τ sig (Elt F) Λ .tc) PUnit) : List (Option (Σ β, TpuEff nD τ sig (Elt F) Λ .tc β)) :=
  match feed ans s 0 p with
  | none => []
  | some p' => trace ans n s p'

/-- A copy under another name, so that the two sides of an equation unfold independently. -/
def feed' (ans : Oracle F) : ℕ → ℕ → Prog (TpuEff nD τ sig (Elt F) Λ .tc) PUnit → Option (Prog (TpuEff nD τ sig (Elt F) Λ .tc) PUnit)
  | 0, _, p => some p
  | n + 1, j, p => match p with
    | .ret _ => none
    | .op e k => match answer ans j e with
      | none => none
      | some a => feed' ans n (j + 1) (k a)

/-- A copy under another name, so that the two sides of an equation unfold independently. -/
def trace' (ans : Oracle F) : ℕ → ℕ → Prog (TpuEff nD τ sig (Elt F) Λ .tc) PUnit → List (Option (Σ β, TpuEff nD τ sig (Elt F) Λ .tc β))
  | 0, _, _ => []
  | n + 1, j, p => match p with
    | .ret _ => [none]
    | .op e k => some ⟨_, e⟩ :: match answer ans j e with
      | none => []
      | some a => trace' ans n (j + 1) (k a)

/-- A copy under another name, so that the two sides of an equation unfold independently. -/
def piece' (ans : Oracle F) (s n : ℕ) (p : Prog (TpuEff nD τ sig (Elt F) Λ .tc) PUnit) : List (Option (Σ β, TpuEff nD τ sig (Elt F) Λ .tc β)) :=
  match feed' ans s 0 p with
  | none => []
  | some p' => trace' ans n s p'

/-- The copy feeds alike. -/
theorem feed'_eq (ans : Oracle F) : ∀ (n j : ℕ) (p : Prog (TpuEff nD τ sig (Elt F) Λ .tc) PUnit), feed' ans n j p = feed ans n j p
  | 0, _, _ => rfl
  | n + 1, j, p => by
    cases p with
    | ret a => rfl
    | op e k => rcases h : answer ans j e with _ | a <;> simp [feed, feed', h, feed'_eq ans n]

/-- The copy traces alike. -/
theorem trace'_eq (ans : Oracle F) : ∀ (n j : ℕ) (p : Prog (TpuEff nD τ sig (Elt F) Λ .tc) PUnit), trace' ans n j p = trace ans n j p
  | 0, _, _ => rfl
  | n + 1, j, p => by
    cases p with
    | ret a => rfl
    | op e k => rcases h : answer ans j e with _ | a <;> simp [trace, trace', h, trace'_eq ans n]

/-- The copy has the same pieces. -/
theorem piece'_eq (ans : Oracle F) (s n : ℕ) (p : Prog (TpuEff nD τ sig (Elt F) Λ .tc) PUnit) : piece' ans s n p = piece ans s n p := by
  unfold piece piece'
  rw [feed'_eq]
  rcases feed ans s 0 p with _ | q <;> simp [trace'_eq]

/-- A trace is its first part, then the trace of what is left. -/
theorem trace_add (ans : Oracle F) (n : ℕ) : ∀ (s j : ℕ) (p : Prog (TpuEff nD τ sig (Elt F) Λ .tc) PUnit),
    trace ans (s + n) j p = trace ans s j p ++ match feed ans s j p with
      | none => []
      | some p' => trace ans n (j + s) p'
  | 0, j, p => by simp [trace, feed]
  | s + 1, j, p => by
    rw [show s + 1 + n = (s + n) + 1 by omega]
    cases p with
    | ret a => simp [trace, feed]
    | op e k =>
      rcases h : answer ans j e with _ | a
      · simp [trace, feed, h]
      · simp [trace, feed, h, trace_add ans n s (j + 1) (k a), show j + 1 + s = j + (s + 1) by omega]

/-- Traces grow by pieces. -/
theorem trace_grow {p q : Prog (TpuEff nD τ sig (Elt F) Λ .tc) PUnit} {s n : ℕ}
    (h : ∀ ans : Oracle F, trace ans s 0 p = trace ans s 0 q) (h' : ∀ ans : Oracle F, piece ans s n p = piece ans s n q) :
    ∀ ans : Oracle F, trace ans (s + n) 0 p = trace ans (s + n) 0 q := by
  intro ans
  rw [trace_add, trace_add, h ans, Nat.zero_add]
  exact congrArg _ (h' ans)

/-- An answer depends on the oracle at one place only. -/
theorem answer_congr {a b : Oracle F} {j : ℕ} (h : a j = b j) {β : Type} (e : TpuEff nD τ sig (Elt F) Λ .tc β) :
    answer a j e = answer b j e := by
  cases e <;> simp [answer, h]

/-- Whether there is an answer does not depend on the oracle. -/
theorem answer_none (a b : Oracle F) (j : ℕ) {β : Type} (e : TpuEff nD τ sig (Elt F) Λ .tc β) :
    answer a j e = none ↔ answer b j e = none := by
  cases e <;> simp [answer]

/-- A trace depends on the oracle from its start on only. -/
theorem trace_congr {a b : Oracle F} : ∀ (n j : ℕ) (_ : ∀ i, j ≤ i → a i = b i) (p : Prog (TpuEff nD τ sig (Elt F) Λ .tc) PUnit),
    trace a n j p = trace b n j p
  | 0, _, _, _ => rfl
  | n + 1, j, h, p => by
    cases p with
    | ret a => rfl
    | op e k =>
      have e1 := answer_congr (h j le_rfl) e
      rcases h2 : answer b j e with _ | x
      · simp [trace, e1, h2]
      · simp [trace, e1, h2, trace_congr n (j + 1) (fun i hi => h i (by omega)) (k x)]

/-- What is left after some operations depends on the oracle from the start on only. -/
theorem feed_congr {a b : Oracle F} : ∀ (n j : ℕ) (_ : ∀ i, j ≤ i → a i = b i) (p : Prog (TpuEff nD τ sig (Elt F) Λ .tc) PUnit),
    feed a n j p = feed b n j p
  | 0, _, _, _ => rfl
  | n + 1, j, h, p => by
    cases p with
    | ret a => rfl
    | op e k =>
      have e1 := answer_congr (h j le_rfl) e
      rcases h2 : answer b j e with _ | x
      · simp [feed, e1, h2]
      · simp [feed, e1, h2, feed_congr n (j + 1) (fun i hi => h i (by omega)) (k x)]

open Classical in
/-- An oracle can be made to give any one answer. -/
theorem answer_any (ans : Oracle F) (j : ℕ) {β : Type} (e : TpuEff nD τ sig (Elt F) Λ .tc β) (h : answer ans j e ≠ none) (x : β) :
    ∃ b : Oracle F, answer b j e = some x ∧ ∀ i, j + 1 ≤ i → b i = ans i := by
  cases e with
  | @load cs s e m r hl =>
    refine ⟨fun i s' e' => if hi : i = j ∧ s' = r.shape ∧ e' = e then cast (by rw [hi.2.1, hi.2.2]) x else ans i s' e', ?_, ?_⟩
    · simp [answer]
    · intro i hi; funext s' e'; exact dif_neg (by omega)
  | store => exact ⟨ans, rfl, fun _ _ => rfl⟩
  | _ => exact absurd rfl h

/-- Programs with equal traces are equal. -/
theorem eq_of_trace (o : Oracle F) : ∀ (m n j : ℕ) (p q : Prog (TpuEff nD τ sig (Elt F) Λ .tc) PUnit), m < n →
    (∀ ans : Oracle F, feed ans m j p = some (.ret ⟨⟩)) → (∀ ans : Oracle F, trace ans n j p = trace ans n j q) → p = q
  | 0, n + 1, j, p, q, _, hf, ht => by
    have h1 : p = .ret ⟨⟩ := by simpa [feed] using hf o
    subst h1
    cases q with
    | ret a => rfl
    | op e k => simpa [trace] using ht o
  | m + 1, n + 1, j, p, q, hm, hf, ht => by
    cases p with
    | ret a => simpa [feed] using hf o
    | op e k =>
      cases q with
      | ret a => simpa [trace] using ht o
      | op e' k' =>
        have h0 := ht o
        simp only [trace, List.cons.injEq, Option.some.injEq, Sigma.mk.injEq] at h0
        obtain ⟨⟨rfl, h1⟩, -⟩ := h0
        obtain rfl := eq_of_heq h1
        have hne : answer o j e ≠ none := fun h => by simpa [feed, h] using hf o
        have : k = k' := by
          funext x
          refine eq_of_trace o m n (j + 1) (k x) (k' x) (by omega) (fun ans => ?_) (fun ans => ?_) <;>
            obtain ⟨b, hb, hb'⟩ := answer_any ans j e (fun h => hne ((answer_none ans o j e).mp h)) x
          · have := hf b
            simpa [feed, hb, feed_congr m (j + 1) hb'] using this
          · have := ht b
            simpa [trace, hb, trace_congr n (j + 1) hb'] using this
        rw [this]

end
end Win
end
-- ==== Proof.Equal.KernelFirst.lean ====
/-
  The printed body at a grid point that starts a sequence, compared with the body written with loops: their operations
  are the same, piece by piece.
-/
module

public import proofs.«01_k».proof.Kernel
public import proofs.«01_k».proof.Proof.Struct
public import proofs.«01_k».proof.Proof.Feed

@[expose] public section

set_option maxRecDepth 1000000
set_option maxHeartbeats 0

noncomputable section

namespace Cert.Kernel.First

open Idealize.ShloMosaic Idealize.SL.Sem

variable {F : FTy → Type} [FloatOps F] [Facts]
variable (arg1 : Memref sig .tc .smem S56 .f32) (harg1 : arg1.IsWhole)
  (arg2 : Memref sig .tc .smem S8 .f32) (harg2 : arg2.IsWhole)
  (arg3 : Memref sig .tc .smem S1 .f32) (harg3 : arg3.IsWhole)
  (arg4 : Memref sig .tc .vmem S256x56x128 .i8) (harg4 : arg4.IsWhole)
  (arg5 : Memref sig .tc .vmem S256x8x128 .i8) (harg5 : arg5.IsWhole)
  (arg6 : Memref sig .tc .vmem S256x8x128 .i8) (harg6 : arg6.IsWhole)
  (arg7 : Memref sig .tc .vmem S8x128 .f32) (harg7 : arg7.IsWhole)
  (arg8 : Memref sig .tc .vmem S256x7168 .bf16) (harg8 : arg8.IsWhole)
  (arg9 : Memref sig .tc .vmem S14x256x128 .i32) (harg9 : arg9.IsWhole)
  (arg10 : Memref sig .tc .vmem S3x2x128x128 .i32) (harg10 : arg10.IsWhole)
  (arg11 : Memref sig .tc .vmem S3x2x128x128 .i32) (harg11 : arg11.IsWhole)
  (arg12 : Memref sig .tc .vmem S2x448x256 .f32) (harg12 : arg12.IsWhole)
  (arg13 : Memref sig .tc .vmem S2x448x256 .fp8e4m3) (harg13 : arg13.IsWhole)
  (arg14 : Memref sig .tc .vmem S2x448x128 .fp8e4m3) (harg14 : arg14.IsWhole)

/-- The printed body at such a point. -/
abbrev printed : Prog (TpuEff nD τ sig (Elt F) Λ₀ .tc) PUnit :=
  cc0_sigmoid_window_attention (F := F) (grid0.coords ⟨0, by decide⟩) arg1 harg1 arg2 harg2 arg3 harg3 arg4 harg4 arg5 harg5 arg6 harg6 arg7 harg7 arg8 harg8 arg9 harg9 arg10 harg10 arg11 harg11 arg12 harg12 arg13 harg13 arg14 harg14

/-- The body with its loops. -/
abbrev looped : Prog (TpuEff nD τ sig (Elt F) Λ₀ .tc) PUnit :=
  Win.body ⟨arg1, arg2, arg3, arg4, arg5, arg6, arg7, arg8, harg8, arg9, arg10, arg11, arg12, arg13, harg13, arg14, harg14⟩ 0

/-- Piece 0 of the two programs: the same operations. -/
theorem piece0 (ans : Win.Oracle F) : Win.piece ans 0 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 0 900 (looped arg1 arg2 arg3 arg4 arg5 arg6 arg7 arg8 harg8 arg9 arg10 arg11 arg12 arg13 harg13 arg14 harg14) := by
  eq_refl

/-- Piece 1 of the two programs: the same operations. -/
theorem piece1 (ans : Win.Oracle F) : Win.piece ans 900 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 900 900 (looped arg1 arg2 arg3 arg4 arg5 arg6 arg7 arg8 harg8 arg9 arg10 arg11 arg12 arg13 harg13 arg14 harg14) := by
  eq_refl

/-- Piece 2 of the two programs: the same operations. -/
theorem piece2 (ans : Win.Oracle F) : Win.piece ans 1800 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 1800 900 (looped arg1 arg2 arg3 arg4 arg5 arg6 arg7 arg8 harg8 arg9 arg10 arg11 arg12 arg13 harg13 arg14 harg14) := by
  eq_refl

/-- Piece 3 of the two programs: the same operations. -/
theorem piece3 (ans : Win.Oracle F) : Win.piece ans 2700 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 2700 900 (looped arg1 arg2 arg3 arg4 arg5 arg6 arg7 arg8 harg8 arg9 arg10 arg11 arg12 arg13 harg13 arg14 harg14) := by
  eq_refl

/-- Piece 4 of the two programs: the same operations. -/
theorem piece4 (ans : Win.Oracle F) : Win.piece ans 3600 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 3600 900 (looped arg1 arg2 arg3 arg4 arg5 arg6 arg7 arg8 harg8 arg9 arg10 arg11 arg12 arg13 harg13 arg14 harg14) := by
  eq_refl

/-- The printed body ends after its last operation. -/
theorem ends (ans : Win.Oracle F) : Win.feed ans 4395 0 (printed (F := F) arg1 harg1 arg2 harg2 arg3 harg3 arg4 harg4 arg5 harg5 arg6 harg6 arg7 harg7 arg8 harg8 arg9 harg9 arg10 harg10 arg11 harg11 arg12 harg12 arg13 harg13 arg14 harg14) = some (.ret ⟨⟩) := by
  eq_refl

/-- The two bodies are equal. -/
theorem printed_eq (o : Win.Oracle F) : printed (F := F) arg1 harg1 arg2 harg2 arg3 harg3 arg4 harg4 arg5 harg5 arg6 harg6 arg7 harg7 arg8 harg8 arg9 harg9 arg10 harg10 arg11 harg11 arg12 harg12 arg13 harg13 arg14 harg14 = looped arg1 arg2 arg3 arg4 arg5 arg6 arg7 arg8 harg8 arg9 arg10 arg11 arg12 arg13 harg13 arg14 harg14 := by
  refine Win.eq_of_trace o 4395 (900 + 900 + 900 + 900 + 900) 0 _ _ (by decide) (fun ans => ends arg1 harg1 arg2 harg2 arg3 harg3 arg4 harg4 arg5 harg5 arg6 harg6 arg7 harg7 arg8 harg8 arg9 harg9 arg10 harg10 arg11 harg11 arg12 harg12 arg13 harg13 arg14 harg14 ans) ?_
  have h0 (ans : Win.Oracle F) : Win.trace ans 900 0 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.trace ans 900 0 (looped arg1 arg2 arg3 arg4 arg5 arg6 arg7 arg8 harg8 arg9 arg10 arg11 arg12 arg13 harg13 arg14 harg14) := by
    have := piece0 arg1 harg1 arg2 harg2 arg3 harg3 arg4 harg4 arg5 harg5 arg6 harg6 arg7 harg7 arg8 harg8 arg9 harg9 arg10 harg10 arg11 harg11 arg12 harg12 arg13 harg13 arg14 harg14 ans
    rw [Win.piece'_eq] at this
    exact this
  refine Win.trace_grow (Win.trace_grow (Win.trace_grow (Win.trace_grow h0 ?_) ?_) ?_) ?_
  · intro ans; exact (piece1 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece2 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece3 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece4 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)

end Cert.Kernel.First

end
end
-- ==== Proof.Equal.KernelLater.lean ====
/-
  The printed body at a grid point that does not start a sequence, compared with the body written with loops: their operations
  are the same, piece by piece.
-/
module

public import proofs.«01_k».proof.Kernel
public import proofs.«01_k».proof.Proof.Struct
public import proofs.«01_k».proof.Proof.Feed

@[expose] public section

set_option maxRecDepth 1000000
set_option maxHeartbeats 0

noncomputable section

namespace Cert.Kernel.Later

open Idealize.ShloMosaic Idealize.SL.Sem

variable {F : FTy → Type} [FloatOps F] [Facts]
variable (arg1 : Memref sig .tc .smem S56 .f32) (harg1 : arg1.IsWhole)
  (arg2 : Memref sig .tc .smem S8 .f32) (harg2 : arg2.IsWhole)
  (arg3 : Memref sig .tc .smem S1 .f32) (harg3 : arg3.IsWhole)
  (arg4 : Memref sig .tc .vmem S256x56x128 .i8) (harg4 : arg4.IsWhole)
  (arg5 : Memref sig .tc .vmem S256x8x128 .i8) (harg5 : arg5.IsWhole)
  (arg6 : Memref sig .tc .vmem S256x8x128 .i8) (harg6 : arg6.IsWhole)
  (arg7 : Memref sig .tc .vmem S8x128 .f32) (harg7 : arg7.IsWhole)
  (arg8 : Memref sig .tc .vmem S256x7168 .bf16) (harg8 : arg8.IsWhole)
  (arg9 : Memref sig .tc .vmem S14x256x128 .i32) (harg9 : arg9.IsWhole)
  (arg10 : Memref sig .tc .vmem S3x2x128x128 .i32) (harg10 : arg10.IsWhole)
  (arg11 : Memref sig .tc .vmem S3x2x128x128 .i32) (harg11 : arg11.IsWhole)
  (arg12 : Memref sig .tc .vmem S2x448x256 .f32) (harg12 : arg12.IsWhole)
  (arg13 : Memref sig .tc .vmem S2x448x256 .fp8e4m3) (harg13 : arg13.IsWhole)
  (arg14 : Memref sig .tc .vmem S2x448x128 .fp8e4m3) (harg14 : arg14.IsWhole)

/-- The printed body at such a point. -/
abbrev printed : Prog (TpuEff nD τ sig (Elt F) Λ₀ .tc) PUnit :=
  cc0_sigmoid_window_attention (F := F) (grid0.coords ⟨1, by decide⟩) arg1 harg1 arg2 harg2 arg3 harg3 arg4 harg4 arg5 harg5 arg6 harg6 arg7 harg7 arg8 harg8 arg9 harg9 arg10 harg10 arg11 harg11 arg12 harg12 arg13 harg13 arg14 harg14

/-- The body with its loops. -/
abbrev looped : Prog (TpuEff nD τ sig (Elt F) Λ₀ .tc) PUnit :=
  Win.body ⟨arg1, arg2, arg3, arg4, arg5, arg6, arg7, arg8, harg8, arg9, arg10, arg11, arg12, arg13, harg13, arg14, harg14⟩ 1

/-- Piece 0 of the two programs: the same operations. -/
theorem piece0 (ans : Win.Oracle F) : Win.piece ans 0 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 0 900 (looped arg1 arg2 arg3 arg4 arg5 arg6 arg7 arg8 harg8 arg9 arg10 arg11 arg12 arg13 harg13 arg14 harg14) := by
  eq_refl

/-- Piece 1 of the two programs: the same operations. -/
theorem piece1 (ans : Win.Oracle F) : Win.piece ans 900 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 900 900 (looped arg1 arg2 arg3 arg4 arg5 arg6 arg7 arg8 harg8 arg9 arg10 arg11 arg12 arg13 harg13 arg14 harg14) := by
  eq_refl

/-- Piece 2 of the two programs: the same operations. -/
theorem piece2 (ans : Win.Oracle F) : Win.piece ans 1800 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 1800 900 (looped arg1 arg2 arg3 arg4 arg5 arg6 arg7 arg8 harg8 arg9 arg10 arg11 arg12 arg13 harg13 arg14 harg14) := by
  eq_refl

/-- Piece 3 of the two programs: the same operations. -/
theorem piece3 (ans : Win.Oracle F) : Win.piece ans 2700 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 2700 900 (looped arg1 arg2 arg3 arg4 arg5 arg6 arg7 arg8 harg8 arg9 arg10 arg11 arg12 arg13 harg13 arg14 harg14) := by
  eq_refl

/-- Piece 4 of the two programs: the same operations. -/
theorem piece4 (ans : Win.Oracle F) : Win.piece ans 3600 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 3600 900 (looped arg1 arg2 arg3 arg4 arg5 arg6 arg7 arg8 harg8 arg9 arg10 arg11 arg12 arg13 harg13 arg14 harg14) := by
  eq_refl

/-- The printed body ends after its last operation. -/
theorem ends (ans : Win.Oracle F) : Win.feed ans 4391 0 (printed (F := F) arg1 harg1 arg2 harg2 arg3 harg3 arg4 harg4 arg5 harg5 arg6 harg6 arg7 harg7 arg8 harg8 arg9 harg9 arg10 harg10 arg11 harg11 arg12 harg12 arg13 harg13 arg14 harg14) = some (.ret ⟨⟩) := by
  eq_refl

/-- The two bodies are equal. -/
theorem printed_eq (o : Win.Oracle F) : printed (F := F) arg1 harg1 arg2 harg2 arg3 harg3 arg4 harg4 arg5 harg5 arg6 harg6 arg7 harg7 arg8 harg8 arg9 harg9 arg10 harg10 arg11 harg11 arg12 harg12 arg13 harg13 arg14 harg14 = looped arg1 arg2 arg3 arg4 arg5 arg6 arg7 arg8 harg8 arg9 arg10 arg11 arg12 arg13 harg13 arg14 harg14 := by
  refine Win.eq_of_trace o 4391 (900 + 900 + 900 + 900 + 900) 0 _ _ (by decide) (fun ans => ends arg1 harg1 arg2 harg2 arg3 harg3 arg4 harg4 arg5 harg5 arg6 harg6 arg7 harg7 arg8 harg8 arg9 harg9 arg10 harg10 arg11 harg11 arg12 harg12 arg13 harg13 arg14 harg14 ans) ?_
  have h0 (ans : Win.Oracle F) : Win.trace ans 900 0 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.trace ans 900 0 (looped arg1 arg2 arg3 arg4 arg5 arg6 arg7 arg8 harg8 arg9 arg10 arg11 arg12 arg13 harg13 arg14 harg14) := by
    have := piece0 arg1 harg1 arg2 harg2 arg3 harg3 arg4 harg4 arg5 harg5 arg6 harg6 arg7 harg7 arg8 harg8 arg9 harg9 arg10 harg10 arg11 harg11 arg12 harg12 arg13 harg13 arg14 harg14 ans
    rw [Win.piece'_eq] at this
    exact this
  refine Win.trace_grow (Win.trace_grow (Win.trace_grow (Win.trace_grow h0 ?_) ?_) ?_) ?_
  · intro ans; exact (piece1 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece2 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece3 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece4 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)

end Cert.Kernel.Later

end
end
-- ==== Proof.KernelAt.lean ====
/-
  The printed body at every grid point is the body with its loops: the grid point enters only the one condition that
  asks whether a sequence starts.
-/
module

public import proofs.«01_k».proof.Proof.Equal.KernelFirst
public import proofs.«01_k».proof.Proof.Equal.KernelLater
public import proofs.«01_k».proof.Proof.Gen.Kernel

@[expose] public section

set_option maxRecDepth 1000000
set_option maxHeartbeats 0

noncomputable section

namespace Cert.Kernel.At

open Idealize.ShloMosaic Idealize.SL.Sem

variable {F : FTy → Type} [FloatOps F] [Facts]
variable (arg1 : Memref sig .tc .smem S56 .f32) (harg1 : arg1.IsWhole)
  (arg2 : Memref sig .tc .smem S8 .f32) (harg2 : arg2.IsWhole)
  (arg3 : Memref sig .tc .smem S1 .f32) (harg3 : arg3.IsWhole)
  (arg4 : Memref sig .tc .vmem S256x56x128 .i8) (harg4 : arg4.IsWhole)
  (arg5 : Memref sig .tc .vmem S256x8x128 .i8) (harg5 : arg5.IsWhole)
  (arg6 : Memref sig .tc .vmem S256x8x128 .i8) (harg6 : arg6.IsWhole)
  (arg7 : Memref sig .tc .vmem S8x128 .f32) (harg7 : arg7.IsWhole)
  (arg8 : Memref sig .tc .vmem S256x7168 .bf16) (harg8 : arg8.IsWhole)
  (arg9 : Memref sig .tc .vmem S14x256x128 .i32) (harg9 : arg9.IsWhole)
  (arg10 : Memref sig .tc .vmem S3x2x128x128 .i32) (harg10 : arg10.IsWhole)
  (arg11 : Memref sig .tc .vmem S3x2x128x128 .i32) (harg11 : arg11.IsWhole)
  (arg12 : Memref sig .tc .vmem S2x448x256 .f32) (harg12 : arg12.IsWhole)
  (arg13 : Memref sig .tc .vmem S2x448x256 .fp8e4m3) (harg13 : arg13.IsWhole)
  (arg14 : Memref sig .tc .vmem S2x448x128 .fp8e4m3) (harg14 : arg14.IsWhole)

/-- Whether a sequence starts at a grid point. -/
theorem word_at : ∀ t : Fin 64, Win.startWord t.val = if t.val % 32 = 0 then 1#1 else 0#1 := by decide

/-- The first printed part reads the grid point only in the condition that asks whether a sequence starts. -/
theorem part1_at (i i' : grid0.Coords) (h : Win.startWord (i 0).val = Win.startWord (i' 0).val) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14
      = k0_part1 i' arg1 harg1 arg2 harg2 arg3 harg3 arg4 harg4 arg5 harg5 arg6 harg6 arg7 harg7 arg8 harg8 arg9 harg9 arg10 harg10 arg11 harg11 arg12 harg12 arg13 harg13 arg14 harg14 := by
  unfold Win.startWord at h
  unfold k0_part1
  dsimp only at h ⊢
  rw [h]

/-- So does the printed body. -/
theorem cc0_at (i i' : grid0.Coords) (h : Win.startWord (i 0).val = Win.startWord (i' 0).val) :
    cc0_sigmoid_window_attention (F := F) i arg1 harg1 arg2 harg2 arg3 harg3 arg4 harg4 arg5 harg5 arg6 harg6 arg7 harg7 arg8 harg8 arg9 harg9 arg10 harg10 arg11 harg11 arg12 harg12 arg13 harg13 arg14 harg14
      = cc0_sigmoid_window_attention i' arg1 harg1 arg2 harg2 arg3 harg3 arg4 harg4 arg5 harg5 arg6 harg6 arg7 harg7 arg8 harg8 arg9 harg9 arg10 harg10 arg11 harg11 arg12 harg12 arg13 harg13 arg14 harg14 := by
  have e := part1_at (F := F) arg1 harg1 arg2 harg2 arg3 harg3 arg4 harg4 arg5 harg5 arg6 harg6 arg7 harg7 arg8 harg8 arg9 harg9 arg10 harg10 arg11 harg11 arg12 harg12 arg13 harg13 arg14 harg14 i i' h
  have e' : k0_part475 (F := F) i arg1 harg1 arg2 harg2 arg3 harg3 arg4 harg4 arg5 harg5 arg6 harg6 arg7 harg7 arg8 harg8 arg9 harg9 arg10 harg10 arg11 harg11 arg12 harg12 arg13 harg13 arg14 harg14
      = k0_part475 i' arg1 harg1 arg2 harg2 arg3 harg3 arg4 harg4 arg5 harg5 arg6 harg6 arg7 harg7 arg8 harg8 arg9 harg9 arg10 harg10 arg11 harg11 arg12 harg12 arg13 harg13 arg14 harg14 := by
    unfold k0_part475
    rewrite [e]
    rfl
  unfold cc0_sigmoid_window_attention
  rewrite [e']
  rfl

/-- The printed body at any grid point is the body with its loops. -/
theorem printed_at (t : Fin grid0.N) :
    cc0_sigmoid_window_attention (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14
      = Win.body ⟨arg1, arg2, arg3, arg4, arg5, arg6, arg7, arg8, harg8, arg9, arg10, arg11, arg12, arg13, harg13, arg14, harg14⟩ (if t.val % 32 = 0 then 0 else 1) := by
  have ht : ((grid0.coords t 0).val) = t.val % 64 := by
    show t.val / grid0.stride 0 % 64 = _
    rw [show grid0.stride 0 = 1 from by decide, Nat.div_one]
  have ht' : t.val < 64 := t.isLt.trans_eq (by decide)
  have hw : Win.startWord (grid0.coords t 0).val = if t.val % 32 = 0 then 1#1 else 0#1 := by
    rw [ht, Nat.mod_eq_of_lt ht']; exact word_at ⟨t.val, ht'⟩
  have o : Win.Oracle F := fun _ s e _ => by
    cases e <;> first | exact (0 : BitVec _) | exact (Scalar.ofBits (F := F) .fp8e4m3 0) | exact (Scalar.ofBits (F := F) .fp8e5m2 0) | exact (Scalar.ofBits (F := F) .bf16 0) | exact (Scalar.ofBits (F := F) .f16 0) | exact (Scalar.ofBits (F := F) .f32 0)
  split
  · next h =>
    rw [cc0_at _ _ _ _ _ _ _ _ _ _ _ _ _ _ _ _ _ _ _ _ _ _ _ _ _ _ _ _ (grid0.coords t) (grid0.coords ⟨0, by decide⟩) (by rw [hw, if_pos h]; decide)]
    exact First.printed_eq arg1 harg1 arg2 harg2 arg3 harg3 arg4 harg4 arg5 harg5 arg6 harg6 arg7 harg7 arg8 harg8 arg9 harg9 arg10 harg10 arg11 harg11 arg12 harg12 arg13 harg13 arg14 harg14 o
  · next h =>
    rw [cc0_at _ _ _ _ _ _ _ _ _ _ _ _ _ _ _ _ _ _ _ _ _ _ _ _ _ _ _ _ (grid0.coords t) (grid0.coords ⟨1, by decide⟩) (by rw [hw, if_neg h]; decide)]
    exact Later.printed_eq arg1 harg1 arg2 harg2 arg3 harg3 arg4 harg4 arg5 harg5 arg6 harg6 arg7 harg7 arg8 harg8 arg9 harg9 arg10 harg10 arg11 harg11 arg12 harg12 arg13 harg13 arg14 harg14 o

end Cert.Kernel.At

end
-- ==== Proof.KernelRun.lean ====
/-
  The kernel's run: at every grid point the body takes one block's inputs, with the window of keys and values that
  the point before it left packed, to the block's results.
-/
module

public import proofs.«01_k».proof.Proof.Body
public import proofs.«01_k».proof.Proof.KernelAt
public import proofs.«01_k».proof.Proof.Gen.Kernel.Frame
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

attribute [local instance] Cert.Kernel.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The keys of a block. -/
def kblk (c : Dev nD) (t : Fin cfg0.N) : Win.S256x8x128.Idx → BitVec 8 := iblk m c 4 t
/-- The values of a block. -/
def vblk (c : Dev nD) (t : Fin cfg0.N) : Win.S256x8x128.Idx → BitVec 8 := iblk m c 5 t

/-- The grid point before a grid point. -/
def before (t : Fin cfg0.N) : Fin cfg0.N := ⟨t.val - 1, lt_of_le_of_lt (Nat.sub_le _ _) t.isLt⟩

/-- What one grid point sees. -/
def inp (c : Dev nD) (t : Fin cfg0.N) : Win.Inp F where
  qs := iblk m c 0 t
  ks := iblk m c 1 t
  ps := iblk m c 2 t
  q := iblk m c 3 t
  k := kblk m c t
  v := vblk m c t
  vs := iblk m c 6 t
  kp := if t.val % 32 = 0 then (fun _ _ _ => 0) else Win.window (fun _ _ _ => 0) (kblk m c (before t)) 2
  vp := if t.val % 32 = 0 then (fun _ _ _ => 0) else Win.window (fun _ _ _ => 0) (vblk m c (before t)) 2

/-- What the points before `n` leave packed: the second window of the block before. -/
def carried (c : Dev nD) (n : ℕ) (wk wv : Win.S3x2x128x128.Idx → BitVec 32) : Prop :=
  ∀ t : Fin cfg0.N, n = t.val + 1 →
    Win.Packed (Qd := 2) (T := 128) (Win.slotOf wk 2) (Win.window (fun _ _ _ => 0) (kblk m c t) 2)
    ∧ Win.Packed (Qd := 2) (T := 128) (Win.slotOf wv 2) (Win.window (fun _ _ _ => 0) (vblk m c t) 2)

/-- The scratch buffers between grid points. -/
def scratch (c : Dev nD) (n : ℕ) : sProp 𝕄 :=
  iprop(∃ wq : Win.S14x256x128.Idx → Elt F .i32, ∃ wk : Win.S3x2x128x128.Idx → Elt F .i32, ∃ wv : Win.S3x2x128x128.Idx → Elt F .i32,
    ∃ sa : Win.S2x448x256.Idx → Elt F .f32, ∃ p1 : Win.S2x448x256.Idx → Elt F .fp8e4m3, ∃ p2 : Win.S2x448x128.Idx → Elt F .fp8e4m3,
    ⌜carried m c n wk wv⌝
    ∗ owns (c : Thread nD τ) (Memref.whole cc0_scratch0) fullShare wq
    ∗ owns (c : Thread nD τ) (Memref.whole cc0_scratch1) fullShare wk
    ∗ owns (c : Thread nD τ) (Memref.whole cc0_scratch2) fullShare wv
    ∗ owns (c : Thread nD τ) (Memref.whole cc0_scratch3) fullShare sa
    ∗ owns (c : Thread nD τ) (Memref.whole cc0_scratch4) fullShare p1
    ∗ owns (c : Thread nD τ) (Memref.whole cc0_scratch5) fullShare p2)

/-- The run's proof data: the inputs stay, the result's block is the block's results, the scratch buffers carry the
    window before the next block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Win.outT (inp m c t)
  Φ t := iprop(scratch m c t.val ∗ ∃ r, prngReg c r)
  q _ := fullShare
  owed _ := 0

/-- The arrays are what the region finds. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
/-- The body leaves the keys' scales as they are. -/
theorem after0_1 (c : Dev nD) (t : Fin cfg0.N) : (dats m 0 c).after 1 t = iblk m c 1 t := by dsimp only [dats]
/-- The body leaves the weights' scale as it is. -/
theorem after0_2 (c : Dev nD) (t : Fin cfg0.N) : (dats m 0 c).after 2 t = iblk m c 2 t := by dsimp only [dats]
/-- The body leaves the queries as they are. -/
theorem after0_3 (c : Dev nD) (t : Fin cfg0.N) : (dats m 0 c).after 3 t = iblk m c 3 t := by dsimp only [dats]
/-- The body leaves the keys as they are. -/
theorem after0_4 (c : Dev nD) (t : Fin cfg0.N) : (dats m 0 c).after 4 t = iblk m c 4 t := by dsimp only [dats]
/-- The body leaves the values as they are. -/
theorem after0_5 (c : Dev nD) (t : Fin cfg0.N) : (dats m 0 c).after 5 t = iblk m c 5 t := by dsimp only [dats]
/-- The body leaves the values' scales as they are. -/
theorem after0_6 (c : Dev nD) (t : Fin cfg0.N) : (dats m 0 c).after 6 t = iblk m c 6 t := by dsimp only [dats]
/-- The body leaves the block's results in the results' window. -/
theorem after0_7 (c : Dev nD) (t : Fin cfg0.N) : (dats m 0 c).after 7 t = Win.outT (inp m c t) := by dsimp only [dats]

/-- What the body finds in each input's window. -/
theorem before0_0 (c : Dev nD) (t : Fin cfg0.N) (d) : (dats m 0 c).before 0 t d = iblk m c 0 t :=
  before0_0_of m (dats m 0 c) (A_eq m c 0) (after0_0 m c) t d
/-- The body finds the keys' scales. -/
theorem before0_1 (c : Dev nD) (t : Fin cfg0.N) (d) : (dats m 0 c).before 1 t d = iblk m c 1 t :=
  before0_1_of m (dats m 0 c) (A_eq m c 1) (after0_1 m c) t d
/-- The body finds the weights' scale. -/
theorem before0_2 (c : Dev nD) (t : Fin cfg0.N) (d) : (dats m 0 c).before 2 t d = iblk m c 2 t :=
  before0_2_of m (dats m 0 c) (A_eq m c 2) (after0_2 m c) t d
/-- The body finds the queries. -/
theorem before0_3 (c : Dev nD) (t : Fin cfg0.N) (d) : (dats m 0 c).before 3 t d = iblk m c 3 t :=
  before0_3_of m (dats m 0 c) (A_eq m c 3) (after0_3 m c) t d
/-- The body finds the keys. -/
theorem before0_4 (c : Dev nD) (t : Fin cfg0.N) (d) : (dats m 0 c).before 4 t d = iblk m c 4 t :=
  before0_4_of m (dats m 0 c) (A_eq m c 4) (after0_4 m c) t d
/-- The body finds the values. -/
theorem before0_5 (c : Dev nD) (t : Fin cfg0.N) (d) : (dats m 0 c).before 5 t d = iblk m c 5 t :=
  before0_5_of m (dats m 0 c) (A_eq m c 5) (after0_5 m c) t d
/-- The body finds the values' scales. -/
theorem before0_6 (c : Dev nD) (t : Fin cfg0.N) (d) : (dats m 0 c).before 6 t d = iblk m c 6 t :=
  before0_6_of m (dats m 0 c) (A_eq m c 6) (after0_6 m c) t d

/-! ## The body at a grid point -/

/-- The body's buffers at a grid point. -/
def refs (t : Fin cfg0.N) : Win.Refs sig :=
  ⟨st0_0 t, st0_1 t, st0_2 t, st0_3 t, st0_4 t, st0_5 t, st0_6 t, st0_7 t, hstage0_7 ((cfg0.slots t 7).cast nbuf0_7),
    Memref.whole cc0_scratch0, Memref.whole cc0_scratch1, Memref.whole cc0_scratch2, Memref.whole cc0_scratch3,
    Memref.whole cc0_scratch4, Memref.isWhole_whole _, Memref.whole cc0_scratch5, Memref.isWhole_whole _⟩

/-- The printed body at a grid point is the body with its loops. -/
theorem body_eq (t : Fin cfg0.N) : bodyAt0 (F := F) t = Win.body (refs t) (if t.val % 32 = 0 then 0 else 1) :=
  At.printed_at (F := F) _ _ _ _ _ _ _ _ _ _ _ _ _ _ _ _ _ _ _ _ _ _ _ _ _ _ _ _ t

/-- The contents of the body's buffers at a grid point. -/
def mem (c : Dev nD) (t : Fin cfg0.N) (o : Win.S256x7168.Idx → Elt F .bf16) (wq : Win.S14x256x128.Idx → Elt F .i32)
    (wk wv : Win.S3x2x128x128.Idx → Elt F .i32) (sa : Win.S2x448x256.Idx → Elt F .f32) (p1 : Win.S2x448x256.Idx → Elt F .fp8e4m3)
    (p2 : Win.S2x448x128.Idx → Elt F .fp8e4m3) : Win.Mem F :=
  ⟨iblk m c 0 t, iblk m c 1 t, iblk m c 2 t, iblk m c 3 t, iblk m c 4 t, iblk m c 5 t, iblk m c 6 t, o, wq, wk, wv, sa, p1, p2⟩

/-- The body takes a block's inputs to its results. -/
theorem body_tr (c : Dev nD) (t : Fin cfg0.N) (o : Win.S256x7168.Idx → Elt F .bf16) (wq : Win.S14x256x128.Idx → Elt F .i32)
    (wk wv : Win.S3x2x128x128.Idx → Elt F .i32) (sa : Win.S2x448x256.Idx → Elt F .f32) (p1 : Win.S2x448x256.Idx → Elt F .fp8e4m3)
    (p2 : Win.S2x448x128.Idx → Elt F .fp8e4m3) (h : carried m c t.val wk wv) :
    Win.Tr (U := UR sig nD τ) c (refs t) (defs₀ (F := F)) Variants.none Set.univ (mem m c t o wq wk wv sa p1 p2) (bodyAt0 (F := F) t)
      (fun _ σ' => Win.Holds (inp m c t) σ' ∧ σ'.o = Win.outT (inp m c t) ∧ carried m c (t.val + 1) σ'.wk σ'.wv) := by
  rw [body_eq]
  refine (Win.Tr.body _ (I := inp m c t) ⟨rfl, rfl, rfl, rfl, rfl, rfl, rfl⟩ ?_ ?_).mono ?_
  · intro hs
    have h0 : t.val % 32 = 0 := by
      by_contra h0
      rw [if_neg h0] at hs
      exact absurd hs (by decide)
    exact ⟨if_pos h0, if_pos h0⟩
  · intro hs
    have h0 : ¬ t.val % 32 = 0 := by
      intro h0
      rw [if_pos h0] at hs
      exact hs (by decide)
    obtain ⟨a, b⟩ := h (before t) (by show t.val = t.val - 1 + 1; omega)
    refine ⟨?_, ?_⟩
    · rw [show (inp m c t).kp = _ from if_neg h0]; exact a
    · rw [show (inp m c t).vp = _ from if_neg h0]; exact b
  · rintro _ σ' ⟨h1, h2, h3, h4⟩
    refine ⟨h1, h2, fun t' e => ?_⟩
    obtain rfl : t = t' := Fin.ext (by omega)
    exact ⟨h3, h4⟩

/-! ## The body obligation -/

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body's triple with the scratch buffers in the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl,
    show (dats m 0 c).Φ t.succ = iprop(scratch m c (t.val + 1) ∗ ∃ r, prngReg c r) from rfl,
    show (dats m 0 c).Φ t.castSucc = iprop(scratch m c t.val ∗ ∃ r, prngReg c r) from rfl,
    after0_0, after0_1, after0_2, after0_3, after0_4, after0_5, after0_6, after0_7]
  unfold scratch
  iintro ⟨⟨⟨%wq, %wk, %wv, %sa, %p1, %p2, %hc, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hT := body_tr m c t ((dats m 0 c).before 7 t d7) wq wk wv sa p1 p2 hc
  unfold Win.Tr at hT
  iapply (wp_wand_r frame (wpE (defs₀ (F := F)) Variants.none c none) Set.univ (Q := fun _ => iprop(∃ σ',
    ⌜Win.Holds (inp m c t) σ' ∧ σ'.o = Win.outT (inp m c t) ∧ carried m c (t.val + 1) σ'.wk σ'.wv⌝ ∗ Win.Own c (refs t) σ')))
  isplitl [S0 S1 S2 S3 S4 S5 H0 H1 H2 H3 H4 H5 H6 H7]
  · iapply hT
    unfold Win.Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    iexact S5
  · iintro %_ ⟨%σ, %h, H⟩
    obtain ⟨⟨a0, a1, a2, a3, a4, a5, a6⟩, a7, a8⟩ := h
    unfold Win.Own
    rw [a0, a1, a2, a3, a4, a5, a6, a7]
    icases H with ⟨H0, H1, H2, H3, H4, H5, H6, H7, S0, S1, S2, S3, S4, S5⟩
    isplitl [S0 S1 S2 S3 S4 S5 Hr]
    · isplitl [S0 S1 S2 S3 S4 S5]
      · iexists σ.wq; iexists σ.wk; iexists σ.wv; iexists σ.sa; iexists σ.p1; iexists σ.p2
        isplitr; · ipureintro; exact a8
        isplitl [S0]; · iexact S0
        isplitl [S1]; · iexact S1
        isplitl [S2]; · iexact S2
        isplitl [S3]; · iexact S3
        isplitl [S4]; · iexact S4
        iexact S5
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a grid point. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first grid point nothing is carried. -/
theorem hin (c : Dev nD) : (Pipeline.ΦA spec0 c : sProp 𝕄) ⊢ (dats m 0 c).Φ 0 := by
  rw [show (dats m 0 c).Φ 0 = iprop(scratch m c 0 ∗ ∃ r, prngReg c r) from rfl]
  unfold Pipeline.ΦA scratch
  rw [scopedRest0_eq]
  simp only [owns_whole_eq]
  iintro ⟨⟨⟨%f0, S0⟩, ⟨%f1, S1⟩, ⟨%f2, S2⟩, ⟨%f3, S3⟩, ⟨%f4, S4⟩, ⟨%f5, S5⟩⟩, Hr⟩
  isplitl [S0 S1 S2 S3 S4 S5]
  · iexists f0; iexists f1; iexists f2; iexists f3; iexists f4; iexists f5
    isplitr; · ipureintro; exact fun t e => absurd e (by omega)
    isplitl [S0]
    · iexists f0; isplitr; · ipureintro; rfl
      iexact S0
    isplitl [S1]
    · iexists f1; isplitr; · ipureintro; rfl
      iexact S1
    isplitl [S2]
    · iexists f2; isplitr; · ipureintro; rfl
      iexact S2
    isplitl [S3]
    · iexists f3; isplitr; · ipureintro; rfl
      iexact S3
    isplitl [S4]
    · iexists f4; isplitr; · ipureintro; rfl
      iexact S4
    iexists f5; isplitr; · ipureintro; rfl
    iexact S5
  iexact Hr

/-- After the last grid point the scratch buffers hold whatever they hold. -/
theorem hout (c : Dev nD) : (dats m 0 c).Φ (Fin.last cfg0.N) ⊢ (Pipeline.ΦA spec0 c : sProp 𝕄) := by
  rw [show (dats m 0 c).Φ (Fin.last cfg0.N) = iprop(scratch m c cfg0.N ∗ ∃ r, prngReg c r) from rfl]
  unfold Pipeline.ΦA scratch
  rw [scopedRest0_eq]
  simp only [owns_whole_eq]
  iintro ⟨⟨%wq, %wk, %wv, %sa, %p1, %p2, %hc, ⟨%f0, %_, S0⟩, ⟨%f1, %_, S1⟩, ⟨%f2, %_, S2⟩, ⟨%f3, %_, S3⟩, ⟨%f4, %_, S4⟩, ⟨%f5, %_, S5⟩⟩, Hr⟩
  isplitl [S0 S1 S2 S3 S4 S5]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact Hr

set_option backward.isDefEq.respectTransparency.types false in
set_option maxHeartbeats 800000 in
/-- Every fair execution ends, with every array as the proof data says and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every fair execution ends with every array as the proof data says. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every fair execution ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.Equal.KernelIdealFirst.lean ====
/-
  The printed body at a grid point that starts a sequence, compared with the body written with loops: their operations
  are the same, piece by piece.
-/
module

public import proofs.«01_k».proof.KernelIdeal
public import proofs.«01_k».proof.Proof.Struct
public import proofs.«01_k».proof.Proof.Feed

@[expose] public section

set_option maxRecDepth 1000000
set_option maxHeartbeats 0

noncomputable section

namespace Cert.KernelIdeal.First

open Idealize.ShloMosaic Idealize.SL.Sem

variable {F : FTy → Type} [FloatOps F] [Facts]
variable (arg1 : Memref sig .tc .smem S56 .f32) (harg1 : arg1.IsWhole)
  (arg2 : Memref sig .tc .smem S8 .f32) (harg2 : arg2.IsWhole)
  (arg3 : Memref sig .tc .smem S1 .f32) (harg3 : arg3.IsWhole)
  (arg4 : Memref sig .tc .vmem S256x56x128 .i8) (harg4 : arg4.IsWhole)
  (arg5 : Memref sig .tc .vmem S256x8x128 .i8) (harg5 : arg5.IsWhole)
  (arg6 : Memref sig .tc .vmem S256x8x128 .i8) (harg6 : arg6.IsWhole)
  (arg7 : Memref sig .tc .vmem S8x128 .f32) (harg7 : arg7.IsWhole)
  (arg8 : Memref sig .tc .vmem S256x7168 .bf16) (harg8 : arg8.IsWhole)
  (arg9 : Memref sig .tc .vmem S14x256x128 .i32) (harg9 : arg9.IsWhole)
  (arg10 : Memref sig .tc .vmem S3x2x128x128 .i32) (harg10 : arg10.IsWhole)
  (arg11 : Memref sig .tc .vmem S3x2x128x128 .i32) (harg11 : arg11.IsWhole)
  (arg12 : Memref sig .tc .vmem S2x448x256 .f32) (harg12 : arg12.IsWhole)
  (arg13 : Memref sig .tc .vmem S2x448x256 .fp8e4m3) (harg13 : arg13.IsWhole)
  (arg14 : Memref sig .tc .vmem S2x448x128 .fp8e4m3) (harg14 : arg14.IsWhole)

/-- The printed body at such a point. -/
abbrev printed : Prog (TpuEff nD τ sig (Elt F) Λ₀ .tc) PUnit :=
  cc0_sigmoid_window_attention (F := F) (grid0.coords ⟨0, by decide⟩) arg1 harg1 arg2 harg2 arg3 harg3 arg4 harg4 arg5 harg5 arg6 harg6 arg7 harg7 arg8 harg8 arg9 harg9 arg10 harg10 arg11 harg11 arg12 harg12 arg13 harg13 arg14 harg14

/-- The body with its loops. -/
abbrev looped : Prog (TpuEff nD τ sig (Elt F) Λ₀ .tc) PUnit :=
  Win.body ⟨arg1, arg2, arg3, arg4, arg5, arg6, arg7, arg8, harg8, arg9, arg10, arg11, arg12, arg13, harg13, arg14, harg14⟩ 0

/-- Piece 0 of the two programs: the same operations. -/
theorem piece0 (ans : Win.Oracle F) : Win.piece ans 0 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 0 900 (looped arg1 arg2 arg3 arg4 arg5 arg6 arg7 arg8 harg8 arg9 arg10 arg11 arg12 arg13 harg13 arg14 harg14) := by
  eq_refl

/-- Piece 1 of the two programs: the same operations. -/
theorem piece1 (ans : Win.Oracle F) : Win.piece ans 900 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 900 900 (looped arg1 arg2 arg3 arg4 arg5 arg6 arg7 arg8 harg8 arg9 arg10 arg11 arg12 arg13 harg13 arg14 harg14) := by
  eq_refl

/-- Piece 2 of the two programs: the same operations. -/
theorem piece2 (ans : Win.Oracle F) : Win.piece ans 1800 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 1800 900 (looped arg1 arg2 arg3 arg4 arg5 arg6 arg7 arg8 harg8 arg9 arg10 arg11 arg12 arg13 harg13 arg14 harg14) := by
  eq_refl

/-- Piece 3 of the two programs: the same operations. -/
theorem piece3 (ans : Win.Oracle F) : Win.piece ans 2700 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 2700 900 (looped arg1 arg2 arg3 arg4 arg5 arg6 arg7 arg8 harg8 arg9 arg10 arg11 arg12 arg13 harg13 arg14 harg14) := by
  eq_refl

/-- Piece 4 of the two programs: the same operations. -/
theorem piece4 (ans : Win.Oracle F) : Win.piece ans 3600 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 3600 900 (looped arg1 arg2 arg3 arg4 arg5 arg6 arg7 arg8 harg8 arg9 arg10 arg11 arg12 arg13 harg13 arg14 harg14) := by
  eq_refl

/-- The printed body ends after its last operation. -/
theorem ends (ans : Win.Oracle F) : Win.feed ans 4395 0 (printed (F := F) arg1 harg1 arg2 harg2 arg3 harg3 arg4 harg4 arg5 harg5 arg6 harg6 arg7 harg7 arg8 harg8 arg9 harg9 arg10 harg10 arg11 harg11 arg12 harg12 arg13 harg13 arg14 harg14) = some (.ret ⟨⟩) := by
  eq_refl

/-- The two bodies are equal. -/
theorem printed_eq (o : Win.Oracle F) : printed (F := F) arg1 harg1 arg2 harg2 arg3 harg3 arg4 harg4 arg5 harg5 arg6 harg6 arg7 harg7 arg8 harg8 arg9 harg9 arg10 harg10 arg11 harg11 arg12 harg12 arg13 harg13 arg14 harg14 = looped arg1 arg2 arg3 arg4 arg5 arg6 arg7 arg8 harg8 arg9 arg10 arg11 arg12 arg13 harg13 arg14 harg14 := by
  refine Win.eq_of_trace o 4395 (900 + 900 + 900 + 900 + 900) 0 _ _ (by decide) (fun ans => ends arg1 harg1 arg2 harg2 arg3 harg3 arg4 harg4 arg5 harg5 arg6 harg6 arg7 harg7 arg8 harg8 arg9 harg9 arg10 harg10 arg11 harg11 arg12 harg12 arg13 harg13 arg14 harg14 ans) ?_
  have h0 (ans : Win.Oracle F) : Win.trace ans 900 0 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.trace ans 900 0 (looped arg1 arg2 arg3 arg4 arg5 arg6 arg7 arg8 harg8 arg9 arg10 arg11 arg12 arg13 harg13 arg14 harg14) := by
    have := piece0 arg1 harg1 arg2 harg2 arg3 harg3 arg4 harg4 arg5 harg5 arg6 harg6 arg7 harg7 arg8 harg8 arg9 harg9 arg10 harg10 arg11 harg11 arg12 harg12 arg13 harg13 arg14 harg14 ans
    rw [Win.piece'_eq] at this
    exact this
  refine Win.trace_grow (Win.trace_grow (Win.trace_grow (Win.trace_grow h0 ?_) ?_) ?_) ?_
  · intro ans; exact (piece1 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece2 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece3 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece4 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)

end Cert.KernelIdeal.First

end
end
-- ==== Proof.Equal.KernelIdealLater.lean ====
/-
  The printed body at a grid point that does not start a sequence, compared with the body written with loops: their operations
  are the same, piece by piece.
-/
module

public import proofs.«01_k».proof.KernelIdeal
public import proofs.«01_k».proof.Proof.Struct
public import proofs.«01_k».proof.Proof.Feed

@[expose] public section

set_option maxRecDepth 1000000
set_option maxHeartbeats 0

noncomputable section

namespace Cert.KernelIdeal.Later

open Idealize.ShloMosaic Idealize.SL.Sem

variable {F : FTy → Type} [FloatOps F] [Facts]
variable (arg1 : Memref sig .tc .smem S56 .f32) (harg1 : arg1.IsWhole)
  (arg2 : Memref sig .tc .smem S8 .f32) (harg2 : arg2.IsWhole)
  (arg3 : Memref sig .tc .smem S1 .f32) (harg3 : arg3.IsWhole)
  (arg4 : Memref sig .tc .vmem S256x56x128 .i8) (harg4 : arg4.IsWhole)
  (arg5 : Memref sig .tc .vmem S256x8x128 .i8) (harg5 : arg5.IsWhole)
  (arg6 : Memref sig .tc .vmem S256x8x128 .i8) (harg6 : arg6.IsWhole)
  (arg7 : Memref sig .tc .vmem S8x128 .f32) (harg7 : arg7.IsWhole)
  (arg8 : Memref sig .tc .vmem S256x7168 .bf16) (harg8 : arg8.IsWhole)
  (arg9 : Memref sig .tc .vmem S14x256x128 .i32) (harg9 : arg9.IsWhole)
  (arg10 : Memref sig .tc .vmem S3x2x128x128 .i32) (harg10 : arg10.IsWhole)
  (arg11 : Memref sig .tc .vmem S3x2x128x128 .i32) (harg11 : arg11.IsWhole)
  (arg12 : Memref sig .tc .vmem S2x448x256 .f32) (harg12 : arg12.IsWhole)
  (arg13 : Memref sig .tc .vmem S2x448x256 .fp8e4m3) (harg13 : arg13.IsWhole)
  (arg14 : Memref sig .tc .vmem S2x448x128 .fp8e4m3) (harg14 : arg14.IsWhole)

/-- The printed body at such a point. -/
abbrev printed : Prog (TpuEff nD τ sig (Elt F) Λ₀ .tc) PUnit :=
  cc0_sigmoid_window_attention (F := F) (grid0.coords ⟨1, by decide⟩) arg1 harg1 arg2 harg2 arg3 harg3 arg4 harg4 arg5 harg5 arg6 harg6 arg7 harg7 arg8 harg8 arg9 harg9 arg10 harg10 arg11 harg11 arg12 harg12 arg13 harg13 arg14 harg14

/-- The body with its loops. -/
abbrev looped : Prog (TpuEff nD τ sig (Elt F) Λ₀ .tc) PUnit :=
  Win.body ⟨arg1, arg2, arg3, arg4, arg5, arg6, arg7, arg8, harg8, arg9, arg10, arg11, arg12, arg13, harg13, arg14, harg14⟩ 1

/-- Piece 0 of the two programs: the same operations. -/
theorem piece0 (ans : Win.Oracle F) : Win.piece ans 0 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 0 900 (looped arg1 arg2 arg3 arg4 arg5 arg6 arg7 arg8 harg8 arg9 arg10 arg11 arg12 arg13 harg13 arg14 harg14) := by
  eq_refl

/-- Piece 1 of the two programs: the same operations. -/
theorem piece1 (ans : Win.Oracle F) : Win.piece ans 900 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 900 900 (looped arg1 arg2 arg3 arg4 arg5 arg6 arg7 arg8 harg8 arg9 arg10 arg11 arg12 arg13 harg13 arg14 harg14) := by
  eq_refl

/-- Piece 2 of the two programs: the same operations. -/
theorem piece2 (ans : Win.Oracle F) : Win.piece ans 1800 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 1800 900 (looped arg1 arg2 arg3 arg4 arg5 arg6 arg7 arg8 harg8 arg9 arg10 arg11 arg12 arg13 harg13 arg14 harg14) := by
  eq_refl

/-- Piece 3 of the two programs: the same operations. -/
theorem piece3 (ans : Win.Oracle F) : Win.piece ans 2700 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 2700 900 (looped arg1 arg2 arg3 arg4 arg5 arg6 arg7 arg8 harg8 arg9 arg10 arg11 arg12 arg13 harg13 arg14 harg14) := by
  eq_refl

/-- Piece 4 of the two programs: the same operations. -/
theorem piece4 (ans : Win.Oracle F) : Win.piece ans 3600 900 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.piece' ans 3600 900 (looped arg1 arg2 arg3 arg4 arg5 arg6 arg7 arg8 harg8 arg9 arg10 arg11 arg12 arg13 harg13 arg14 harg14) := by
  eq_refl

/-- The printed body ends after its last operation. -/
theorem ends (ans : Win.Oracle F) : Win.feed ans 4391 0 (printed (F := F) arg1 harg1 arg2 harg2 arg3 harg3 arg4 harg4 arg5 harg5 arg6 harg6 arg7 harg7 arg8 harg8 arg9 harg9 arg10 harg10 arg11 harg11 arg12 harg12 arg13 harg13 arg14 harg14) = some (.ret ⟨⟩) := by
  eq_refl

/-- The two bodies are equal. -/
theorem printed_eq (o : Win.Oracle F) : printed (F := F) arg1 harg1 arg2 harg2 arg3 harg3 arg4 harg4 arg5 harg5 arg6 harg6 arg7 harg7 arg8 harg8 arg9 harg9 arg10 harg10 arg11 harg11 arg12 harg12 arg13 harg13 arg14 harg14 = looped arg1 arg2 arg3 arg4 arg5 arg6 arg7 arg8 harg8 arg9 arg10 arg11 arg12 arg13 harg13 arg14 harg14 := by
  refine Win.eq_of_trace o 4391 (900 + 900 + 900 + 900 + 900) 0 _ _ (by decide) (fun ans => ends arg1 harg1 arg2 harg2 arg3 harg3 arg4 harg4 arg5 harg5 arg6 harg6 arg7 harg7 arg8 harg8 arg9 harg9 arg10 harg10 arg11 harg11 arg12 harg12 arg13 harg13 arg14 harg14 ans) ?_
  have h0 (ans : Win.Oracle F) : Win.trace ans 900 0 (printed (F := F) arg1 harg1 arg2 harg2 arg3 harg3 arg4 harg4 arg5 harg5 arg6 harg6 arg7 harg7 arg8 harg8 arg9 harg9 arg10 harg10 arg11 harg11 arg12 harg12 arg13 harg13 arg14 harg14) = Win.trace ans 900 0 (looped arg1 arg2 arg3 arg4 arg5 arg6 arg7 arg8 harg8 arg9 arg10 arg11 arg12 arg13 harg13 arg14 harg14) := by
    have := piece0 arg1 harg1 arg2 harg2 arg3 harg3 arg4 harg4 arg5 harg5 arg6 harg6 arg7 harg7 arg8 harg8 arg9 harg9 arg10 harg10 arg11 harg11 arg12 harg12 arg13 harg13 arg14 harg14 ans
    rw [Win.piece'_eq] at this
    exact this
  refine Win.trace_grow (Win.trace_grow (Win.trace_grow (Win.trace_grow h0 ?_) ?_) ?_) ?_
  · intro ans; exact (piece1 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece2 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece3 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)
  · intro ans; exact (piece4 arg1 harg1 arg2 harg2 arg3 harg3 arg4 harg4 arg5 harg5 arg6 harg6 arg7 harg7 arg8 harg8 arg9 harg9 arg10 harg10 arg11 harg11 arg12 harg12 arg13 harg13 arg14 harg14 ans).trans (Win.piece'_eq ..)

end Cert.KernelIdeal.Later

end
end
-- ==== Proof.KernelIdealAt.lean ====
/-
  The printed body at every grid point is the body with its loops: the grid point enters only the one condition that
  asks whether a sequence starts.
-/
module

public import proofs.«01_k».proof.Proof.Equal.KernelIdealFirst
public import proofs.«01_k».proof.Proof.Equal.KernelIdealLater
public import proofs.«01_k».proof.Proof.Gen.KernelIdeal

@[expose] public section

set_option maxRecDepth 1000000
set_option maxHeartbeats 0

noncomputable section

namespace Cert.KernelIdeal.At

open Idealize.ShloMosaic Idealize.SL.Sem

variable {F : FTy → Type} [FloatOps F] [Facts]
variable (arg1 : Memref sig .tc .smem S56 .f32) (harg1 : arg1.IsWhole)
  (arg2 : Memref sig .tc .smem S8 .f32) (harg2 : arg2.IsWhole)
  (arg3 : Memref sig .tc .smem S1 .f32) (harg3 : arg3.IsWhole)
  (arg4 : Memref sig .tc .vmem S256x56x128 .i8) (harg4 : arg4.IsWhole)
  (arg5 : Memref sig .tc .vmem S256x8x128 .i8) (harg5 : arg5.IsWhole)
  (arg6 : Memref sig .tc .vmem S256x8x128 .i8) (harg6 : arg6.IsWhole)
  (arg7 : Memref sig .tc .vmem S8x128 .f32) (harg7 : arg7.IsWhole)
  (arg8 : Memref sig .tc .vmem S256x7168 .bf16) (harg8 : arg8.IsWhole)
  (arg9 : Memref sig .tc .vmem S14x256x128 .i32) (harg9 : arg9.IsWhole)
  (arg10 : Memref sig .tc .vmem S3x2x128x128 .i32) (harg10 : arg10.IsWhole)
  (arg11 : Memref sig .tc .vmem S3x2x128x128 .i32) (harg11 : arg11.IsWhole)
  (arg12 : Memref sig .tc .vmem S2x448x256 .f32) (harg12 : arg12.IsWhole)
  (arg13 : Memref sig .tc .vmem S2x448x256 .fp8e4m3) (harg13 : arg13.IsWhole)
  (arg14 : Memref sig .tc .vmem S2x448x128 .fp8e4m3) (harg14 : arg14.IsWhole)

/-- Whether a sequence starts at a grid point. -/
theorem word_at : ∀ t : Fin 64, Win.startWord t.val = if t.val % 32 = 0 then 1#1 else 0#1 := by decide

/-- The first printed part reads the grid point only in the condition that asks whether a sequence starts. -/
theorem part1_at (i i' : grid0.Coords) (h : Win.startWord (i 0).val = Win.startWord (i' 0).val) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14
      = k0_part1 i' arg1 harg1 arg2 harg2 arg3 harg3 arg4 harg4 arg5 harg5 arg6 harg6 arg7 harg7 arg8 harg8 arg9 harg9 arg10 harg10 arg11 harg11 arg12 harg12 arg13 harg13 arg14 harg14 := by
  unfold Win.startWord at h
  unfold k0_part1
  dsimp only at h ⊢
  rw [h]

/-- So does the printed body. -/
theorem cc0_at (i i' : grid0.Coords) (h : Win.startWord (i 0).val = Win.startWord (i' 0).val) :
    cc0_sigmoid_window_attention (F := F) i arg1 harg1 arg2 harg2 arg3 harg3 arg4 harg4 arg5 harg5 arg6 harg6 arg7 harg7 arg8 harg8 arg9 harg9 arg10 harg10 arg11 harg11 arg12 harg12 arg13 harg13 arg14 harg14
      = cc0_sigmoid_window_attention i' arg1 harg1 arg2 harg2 arg3 harg3 arg4 harg4 arg5 harg5 arg6 harg6 arg7 harg7 arg8 harg8 arg9 harg9 arg10 harg10 arg11 harg11 arg12 harg12 arg13 harg13 arg14 harg14 := by
  have e := part1_at (F := F) arg1 harg1 arg2 harg2 arg3 harg3 arg4 harg4 arg5 harg5 arg6 harg6 arg7 harg7 arg8 harg8 arg9 harg9 arg10 harg10 arg11 harg11 arg12 harg12 arg13 harg13 arg14 harg14 i i' h
  have e' : k0_part475 (F := F) i arg1 harg1 arg2 harg2 arg3 harg3 arg4 harg4 arg5 harg5 arg6 harg6 arg7 harg7 arg8 harg8 arg9 harg9 arg10 harg10 arg11 harg11 arg12 harg12 arg13 harg13 arg14 harg14
      = k0_part475 i' arg1 harg1 arg2 harg2 arg3 harg3 arg4 harg4 arg5 harg5 arg6 harg6 arg7 harg7 arg8 harg8 arg9 harg9 arg10 harg10 arg11 harg11 arg12 harg12 arg13 harg13 arg14 harg14 := by
    unfold k0_part475
    rewrite [e]
    rfl
  unfold cc0_sigmoid_window_attention
  rewrite [e']
  rfl

/-- The printed body at any grid point is the body with its loops. -/
theorem printed_at (t : Fin grid0.N) :
    cc0_sigmoid_window_attention (F := F) (grid0.coords t) arg1 harg1 arg2 harg2 arg3 harg3 arg4 harg4 arg5 harg5 arg6 harg6 arg7 harg7 arg8 harg8 arg9 harg9 arg10 harg10 arg11 harg11 arg12 harg12 arg13 harg13 arg14 harg14
      = Win.body ⟨arg1, arg2, arg3, arg4, arg5, arg6, arg7, arg8, harg8, arg9, arg10, arg11, arg12, arg13, harg13, arg14, harg14⟩ (if t.val % 32 = 0 then 0 else 1) := by
  have ht : ((grid0.coords t 0).val) = t.val % 64 := by
    show t.val / grid0.stride 0 % 64 = _
    rw [show grid0.stride 0 = 1 from by decide, Nat.div_one]
  have ht' : t.val < 64 := t.isLt.trans_eq (by decide)
  have hw : Win.startWord (grid0.coords t 0).val = if t.val % 32 = 0 then 1#1 else 0#1 := by
    rw [ht, Nat.mod_eq_of_lt ht']; exact word_at ⟨t.val, ht'⟩
  have o : Win.Oracle F := fun _ s e _ => by
    cases e <;> first | exact (0 : BitVec _) | exact (Scalar.ofBits (F := F) .fp8e4m3 0) | exact (Scalar.ofBits (F := F) .fp8e5m2 0) | exact (Scalar.ofBits (F := F) .bf16 0) | exact (Scalar.ofBits (F := F) .f16 0) | exact (Scalar.ofBits (F := F) .f32 0)
  split
  · next h =>
    rw [cc0_at _ _ _ _ _ _ _ _ _ _ _ _ _ _ _ _ _ _ _ _ _ _ _ _ _ _ _ _ (grid0.coords t) (grid0.coords ⟨0, by decide⟩) (by rw [hw, if_pos h]; decide)]
    exact First.printed_eq arg1 harg1 arg2 harg2 arg3 harg3 arg4 harg4 arg5 harg5 arg6 harg6 arg7 harg7 arg8 harg8 arg9 harg9 arg10 harg10 arg11 harg11 arg12 harg12 arg13 harg13 arg14 harg14 o
  · next h =>
    rw [cc0_at _ _ _ _ _ _ _ _ _ _ _ _ _ _ _ _ _ _ _ _ _ _ _ _ _ _ _ _ (grid0.coords t) (grid0.coords ⟨1, by decide⟩) (by rw [hw, if_neg h]; decide)]
    exact Later.printed_eq arg1 harg1 arg2 harg2 arg3 harg3 arg4 harg4 arg5 harg5 arg6 harg6 arg7 harg7 arg8 harg8 arg9 harg9 arg10 harg10 arg11 harg11 arg12 harg12 arg13 harg13 arg14 harg14 o

end Cert.KernelIdeal.At

end
-- ==== Proof.KernelIdealRun.lean ====
/-
  The kernel's run: at every grid point the body takes one block's inputs, with the window of keys and values that
  the point before it left packed, to the block's results.
-/
module

public import proofs.«01_k».proof.Proof.Body
public import proofs.«01_k».proof.Proof.KernelIdealAt
public import proofs.«01_k».proof.Proof.Gen.KernelIdeal.Frame
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

attribute [local instance] Cert.KernelIdeal.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The keys of a block. -/
def kblk (c : Dev nD) (t : Fin cfg0.N) : Win.S256x8x128.Idx → BitVec 8 := iblk m c 4 t
/-- The values of a block. -/
def vblk (c : Dev nD) (t : Fin cfg0.N) : Win.S256x8x128.Idx → BitVec 8 := iblk m c 5 t

/-- The grid point before a grid point. -/
def before (t : Fin cfg0.N) : Fin cfg0.N := ⟨t.val - 1, lt_of_le_of_lt (Nat.sub_le _ _) t.isLt⟩

/-- What one grid point sees. -/
def inp (c : Dev nD) (t : Fin cfg0.N) : Win.Inp F where
  qs := iblk m c 0 t
  ks := iblk m c 1 t
  ps := iblk m c 2 t
  q := iblk m c 3 t
  k := kblk m c t
  v := vblk m c t
  vs := iblk m c 6 t
  kp := if t.val % 32 = 0 then (fun _ _ _ => 0) else Win.window (fun _ _ _ => 0) (kblk m c (before t)) 2
  vp := if t.val % 32 = 0 then (fun _ _ _ => 0) else Win.window (fun _ _ _ => 0) (vblk m c (before t)) 2

/-- What the points before `n` leave packed: the second window of the block before. -/
def carried (c : Dev nD) (n : ℕ) (wk wv : Win.S3x2x128x128.Idx → BitVec 32) : Prop :=
  ∀ t : Fin cfg0.N, n = t.val + 1 →
    Win.Packed (Qd := 2) (T := 128) (Win.slotOf wk 2) (Win.window (fun _ _ _ => 0) (kblk m c t) 2)
    ∧ Win.Packed (Qd := 2) (T := 128) (Win.slotOf wv 2) (Win.window (fun _ _ _ => 0) (vblk m c t) 2)

/-- The scratch buffers between grid points. -/
def scratch (c : Dev nD) (n : ℕ) : sProp 𝕄 :=
  iprop(∃ wq : Win.S14x256x128.Idx → Elt F .i32, ∃ wk : Win.S3x2x128x128.Idx → Elt F .i32, ∃ wv : Win.S3x2x128x128.Idx → Elt F .i32,
    ∃ sa : Win.S2x448x256.Idx → Elt F .f32, ∃ p1 : Win.S2x448x256.Idx → Elt F .fp8e4m3, ∃ p2 : Win.S2x448x128.Idx → Elt F .fp8e4m3,
    ⌜carried m c n wk wv⌝
    ∗ owns (c : Thread nD τ) (Memref.whole cc0_scratch0) fullShare wq
    ∗ owns (c : Thread nD τ) (Memref.whole cc0_scratch1) fullShare wk
    ∗ owns (c : Thread nD τ) (Memref.whole cc0_scratch2) fullShare wv
    ∗ owns (c : Thread nD τ) (Memref.whole cc0_scratch3) fullShare sa
    ∗ owns (c : Thread nD τ) (Memref.whole cc0_scratch4) fullShare p1
    ∗ owns (c : Thread nD τ) (Memref.whole cc0_scratch5) fullShare p2)

/-- The run's proof data: the inputs stay, the result's block is the block's results, the scratch buffers carry the
    window before the next block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Win.outT (inp m c t)
  Φ t := iprop(scratch m c t.val ∗ ∃ r, prngReg c r)
  q _ := fullShare
  owed _ := 0

/-- The arrays are what the region finds. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
/-- The body leaves the keys' scales as they are. -/
theorem after0_1 (c : Dev nD) (t : Fin cfg0.N) : (dats m 0 c).after 1 t = iblk m c 1 t := by dsimp only [dats]
/-- The body leaves the weights' scale as it is. -/
theorem after0_2 (c : Dev nD) (t : Fin cfg0.N) : (dats m 0 c).after 2 t = iblk m c 2 t := by dsimp only [dats]
/-- The body leaves the queries as they are. -/
theorem after0_3 (c : Dev nD) (t : Fin cfg0.N) : (dats m 0 c).after 3 t = iblk m c 3 t := by dsimp only [dats]
/-- The body leaves the keys as they are. -/
theorem after0_4 (c : Dev nD) (t : Fin cfg0.N) : (dats m 0 c).after 4 t = iblk m c 4 t := by dsimp only [dats]
/-- The body leaves the values as they are. -/
theorem after0_5 (c : Dev nD) (t : Fin cfg0.N) : (dats m 0 c).after 5 t = iblk m c 5 t := by dsimp only [dats]
/-- The body leaves the values' scales as they are. -/
theorem after0_6 (c : Dev nD) (t : Fin cfg0.N) : (dats m 0 c).after 6 t = iblk m c 6 t := by dsimp only [dats]
/-- The body leaves the block's results in the results' window. -/
theorem after0_7 (c : Dev nD) (t : Fin cfg0.N) : (dats m 0 c).after 7 t = Win.outT (inp m c t) := by dsimp only [dats]

/-- What the body finds in each input's window. -/
theorem before0_0 (c : Dev nD) (t : Fin cfg0.N) (d) : (dats m 0 c).before 0 t d = iblk m c 0 t :=
  before0_0_of m (dats m 0 c) (A_eq m c 0) (after0_0 m c) t d
/-- The body finds the keys' scales. -/
theorem before0_1 (c : Dev nD) (t : Fin cfg0.N) (d) : (dats m 0 c).before 1 t d = iblk m c 1 t :=
  before0_1_of m (dats m 0 c) (A_eq m c 1) (after0_1 m c) t d
/-- The body finds the weights' scale. -/
theorem before0_2 (c : Dev nD) (t : Fin cfg0.N) (d) : (dats m 0 c).before 2 t d = iblk m c 2 t :=
  before0_2_of m (dats m 0 c) (A_eq m c 2) (after0_2 m c) t d
/-- The body finds the queries. -/
theorem before0_3 (c : Dev nD) (t : Fin cfg0.N) (d) : (dats m 0 c).before 3 t d = iblk m c 3 t :=
  before0_3_of m (dats m 0 c) (A_eq m c 3) (after0_3 m c) t d
/-- The body finds the keys. -/
theorem before0_4 (c : Dev nD) (t : Fin cfg0.N) (d) : (dats m 0 c).before 4 t d = iblk m c 4 t :=
  before0_4_of m (dats m 0 c) (A_eq m c 4) (after0_4 m c) t d
/-- The body finds the values. -/
theorem before0_5 (c : Dev nD) (t : Fin cfg0.N) (d) : (dats m 0 c).before 5 t d = iblk m c 5 t :=
  before0_5_of m (dats m 0 c) (A_eq m c 5) (after0_5 m c) t d
/-- The body finds the values' scales. -/
theorem before0_6 (c : Dev nD) (t : Fin cfg0.N) (d) : (dats m 0 c).before 6 t d = iblk m c 6 t :=
  before0_6_of m (dats m 0 c) (A_eq m c 6) (after0_6 m c) t d

/-! ## The body at a grid point -/

/-- The body's buffers at a grid point. -/
def refs (t : Fin cfg0.N) : Win.Refs sig :=
  ⟨st0_0 t, st0_1 t, st0_2 t, st0_3 t, st0_4 t, st0_5 t, st0_6 t, st0_7 t, hstage0_7 ((cfg0.slots t 7).cast nbuf0_7),
    Memref.whole cc0_scratch0, Memref.whole cc0_scratch1, Memref.whole cc0_scratch2, Memref.whole cc0_scratch3,
    Memref.whole cc0_scratch4, Memref.isWhole_whole _, Memref.whole cc0_scratch5, Memref.isWhole_whole _⟩

/-- The printed body at a grid point is the body with its loops. -/
theorem body_eq (t : Fin cfg0.N) : bodyAt0 (F := F) t = Win.body (refs t) (if t.val % 32 = 0 then 0 else 1) :=
  At.printed_at (F := F) _ _ _ _ _ _ _ _ _ _ _ _ _ _ _ _ _ _ _ _ _ _ _ _ _ _ _ _ t

/-- The contents of the body's buffers at a grid point. -/
def mem (c : Dev nD) (t : Fin cfg0.N) (o : Win.S256x7168.Idx → Elt F .bf16) (wq : Win.S14x256x128.Idx → Elt F .i32)
    (wk wv : Win.S3x2x128x128.Idx → Elt F .i32) (sa : Win.S2x448x256.Idx → Elt F .f32) (p1 : Win.S2x448x256.Idx → Elt F .fp8e4m3)
    (p2 : Win.S2x448x128.Idx → Elt F .fp8e4m3) : Win.Mem F :=
  ⟨iblk m c 0 t, iblk m c 1 t, iblk m c 2 t, iblk m c 3 t, iblk m c 4 t, iblk m c 5 t, iblk m c 6 t, o, wq, wk, wv, sa, p1, p2⟩

/-- The body takes a block's inputs to its results. -/
theorem body_tr (c : Dev nD) (t : Fin cfg0.N) (o : Win.S256x7168.Idx → Elt F .bf16) (wq : Win.S14x256x128.Idx → Elt F .i32)
    (wk wv : Win.S3x2x128x128.Idx → Elt F .i32) (sa : Win.S2x448x256.Idx → Elt F .f32) (p1 : Win.S2x448x256.Idx → Elt F .fp8e4m3)
    (p2 : Win.S2x448x128.Idx → Elt F .fp8e4m3) (h : carried m c t.val wk wv) :
    Win.Tr (U := UR sig nD τ) c (refs t) (defs₀ (F := F)) Variants.none Set.univ (mem m c t o wq wk wv sa p1 p2) (bodyAt0 (F := F) t)
      (fun _ σ' => Win.Holds (inp m c t) σ' ∧ σ'.o = Win.outT (inp m c t) ∧ carried m c (t.val + 1) σ'.wk σ'.wv) := by
  rw [body_eq]
  refine (Win.Tr.body _ (I := inp m c t) ⟨rfl, rfl, rfl, rfl, rfl, rfl, rfl⟩ ?_ ?_).mono ?_
  · intro hs
    have h0 : t.val % 32 = 0 := by
      by_contra h0
      rw [if_neg h0] at hs
      exact absurd hs (by decide)
    exact ⟨if_pos h0, if_pos h0⟩
  · intro hs
    have h0 : ¬ t.val % 32 = 0 := by
      intro h0
      rw [if_pos h0] at hs
      exact hs (by decide)
    obtain ⟨a, b⟩ := h (before t) (by show t.val = t.val - 1 + 1; omega)
    refine ⟨?_, ?_⟩
    · rw [show (inp m c t).kp = _ from if_neg h0]; exact a
    · rw [show (inp m c t).vp = _ from if_neg h0]; exact b
  · rintro _ σ' ⟨h1, h2, h3, h4⟩
    refine ⟨h1, h2, fun t' e => ?_⟩
    obtain rfl : t = t' := Fin.ext (by omega)
    exact ⟨h3, h4⟩

/-! ## The body obligation -/

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body's triple with the scratch buffers in the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl,
    show (dats m 0 c).Φ t.succ = iprop(scratch m c (t.val + 1) ∗ ∃ r, prngReg c r) from rfl,
    show (dats m 0 c).Φ t.castSucc = iprop(scratch m c t.val ∗ ∃ r, prngReg c r) from rfl,
    after0_0, after0_1, after0_2, after0_3, after0_4, after0_5, after0_6, after0_7]
  unfold scratch
  iintro ⟨⟨⟨%wq, %wk, %wv, %sa, %p1, %p2, %hc, S0, S1, S2, S3, S4, S5⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hT := body_tr m c t ((dats m 0 c).before 7 t d7) wq wk wv sa p1 p2 hc
  unfold Win.Tr at hT
  iapply (wp_wand_r frame (wpE (defs₀ (F := F)) Variants.none c none) Set.univ (Q := fun _ => iprop(∃ σ',
    ⌜Win.Holds (inp m c t) σ' ∧ σ'.o = Win.outT (inp m c t) ∧ carried m c (t.val + 1) σ'.wk σ'.wv⌝ ∗ Win.Own c (refs t) σ')))
  isplitl [S0 S1 S2 S3 S4 S5 H0 H1 H2 H3 H4 H5 H6 H7]
  · iapply hT
    unfold Win.Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    iexact S5
  · iintro %_ ⟨%σ, %h, H⟩
    obtain ⟨⟨a0, a1, a2, a3, a4, a5, a6⟩, a7, a8⟩ := h
    unfold Win.Own
    rw [a0, a1, a2, a3, a4, a5, a6, a7]
    icases H with ⟨H0, H1, H2, H3, H4, H5, H6, H7, S0, S1, S2, S3, S4, S5⟩
    isplitl [S0 S1 S2 S3 S4 S5 Hr]
    · isplitl [S0 S1 S2 S3 S4 S5]
      · iexists σ.wq; iexists σ.wk; iexists σ.wv; iexists σ.sa; iexists σ.p1; iexists σ.p2
        isplitr; · ipureintro; exact a8
        isplitl [S0]; · iexact S0
        isplitl [S1]; · iexact S1
        isplitl [S2]; · iexact S2
        isplitl [S3]; · iexact S3
        isplitl [S4]; · iexact S4
        iexact S5
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a grid point. -/
theorem defs₀_row (t : Fin cfg0.N) :
    defs₀ (F := F) .tc cfg0.body (cfg0.bodyArgs t (cfg0.slots t)) = bodyAt0 t := by
  unfold defs₀; rw [Defs.onTc_tc]

/-- The body obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first grid point nothing is carried. -/
theorem hin (c : Dev nD) : (Pipeline.ΦA spec0 c : sProp 𝕄) ⊢ (dats m 0 c).Φ 0 := by
  rw [show (dats m 0 c).Φ 0 = iprop(scratch m c 0 ∗ ∃ r, prngReg c r) from rfl]
  unfold Pipeline.ΦA scratch
  rw [scopedRest0_eq]
  simp only [owns_whole_eq]
  iintro ⟨⟨⟨%f0, S0⟩, ⟨%f1, S1⟩, ⟨%f2, S2⟩, ⟨%f3, S3⟩, ⟨%f4, S4⟩, ⟨%f5, S5⟩⟩, Hr⟩
  isplitl [S0 S1 S2 S3 S4 S5]
  · iexists f0; iexists f1; iexists f2; iexists f3; iexists f4; iexists f5
    isplitr; · ipureintro; exact fun t e => absurd e (by omega)
    isplitl [S0]
    · iexists f0; isplitr; · ipureintro; rfl
      iexact S0
    isplitl [S1]
    · iexists f1; isplitr; · ipureintro; rfl
      iexact S1
    isplitl [S2]
    · iexists f2; isplitr; · ipureintro; rfl
      iexact S2
    isplitl [S3]
    · iexists f3; isplitr; · ipureintro; rfl
      iexact S3
    isplitl [S4]
    · iexists f4; isplitr; · ipureintro; rfl
      iexact S4
    iexists f5; isplitr; · ipureintro; rfl
    iexact S5
  iexact Hr

/-- After the last grid point the scratch buffers hold whatever they hold. -/
theorem hout (c : Dev nD) : (dats m 0 c).Φ (Fin.last cfg0.N) ⊢ (Pipeline.ΦA spec0 c : sProp 𝕄) := by
  rw [show (dats m 0 c).Φ (Fin.last cfg0.N) = iprop(scratch m c cfg0.N ∗ ∃ r, prngReg c r) from rfl]
  unfold Pipeline.ΦA scratch
  rw [scopedRest0_eq]
  simp only [owns_whole_eq]
  iintro ⟨⟨%wq, %wk, %wv, %sa, %p1, %p2, %hc, ⟨%f0, %_, S0⟩, ⟨%f1, %_, S1⟩, ⟨%f2, %_, S2⟩, ⟨%f3, %_, S3⟩, ⟨%f4, %_, S4⟩, ⟨%f5, %_, S5⟩⟩, Hr⟩
  isplitl [S0 S1 S2 S3 S4 S5]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact Hr

set_option backward.isDefEq.respectTransparency.types false in
set_option maxHeartbeats 800000 in
/-- Every fair execution ends, with every array as the proof data says and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every fair execution ends with every array as the proof data says. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every fair execution ends, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.Attn.lean ====
/-
  The attention both programs compute, element by element on the extended reals.

  A block of 128 queries sees 256 keys: the block before it and the block itself. Query `a` of the block sees
  the keys `a + 1, …, a + 128` of these. `attn` is one element of the result: each seen key's weight times the
  key's value, summed, times the scales.
-/
module

public import Idealize.ShloMosaic.Lib.Pointwise

@[expose] public section

noncomputable section

namespace Win

open Idealize.ShloMosaic

/-- The number a code denotes. -/
def dec (x : BitVec 8) : EReal := Ideal.ofBits .fp8e4m3 x

/-- The zero code denotes zero. -/
theorem dec_zero : dec 0#8 = 0 := Ideal.ofBits_zero .fp8e4m3

/-- The product of a query and a key. -/
def dotQK (q k : ℕ → BitVec 8) : EReal := ∑ d : Fin 128, dec (q d.val) * dec (k d.val)

/-- A seen key's weight from its score: the logistic of the scaled and shifted score over the weights' scale, clipped. -/
def wt (qs ks ps s : EReal) : EReal :=
  min (Ideal.ofBits .f32 0x43E00000#32)
    (max 0 (Ideal.logistic (s * (qs * ks * Ideal.ofBits .f32 0x3DB504F3#32) + Ideal.ofBits .f32 0xC09B43D5#32) * Ideal.div 1 ps))

/-- One element of the result, from one query's codes, the codes of the keys and values of two blocks by key and
    lane, and the scales. -/
def attn (q : ℕ → BitVec 8) (k v : ℕ → ℕ → BitVec 8) (qs ks ps vs : EReal) (a d : ℕ) : EReal :=
  (∑ j : Fin 256, if a < j.val ∧ j.val ≤ a + 128 then wt qs ks ps (dotQK q (k j.val)) * dec (v j.val d) else 0) * (ps * vs)

/-- A query's codes by lane. -/
def queryCode (x : (⟨4, ![2, 8192, 56, 128]⟩ : Shape).Idx → BitVec 8) (b : Fin 2) (s : Fin 8192) (h : Fin 56) (d : ℕ) : BitVec 8 :=
  if hd : d < 128 then x (ix4 b s h ⟨d, hd⟩) else 0

/-- The codes of the 256 keys or values that block `n` sees, by key and lane, zero before the sequence. -/
def seqCode (x : (⟨4, ![2, 8192, 8, 128]⟩ : Shape).Idx → BitVec 8) (b : Fin 2) (g : Fin 8) (n k d : ℕ) : BitVec 8 :=
  if h : 128 ≤ n * 128 + k ∧ n * 128 + k - 128 < 8192 ∧ d < 128 then x (ix4 b ⟨n * 128 + k - 128, h.2.1⟩ g ⟨d, h.2.2⟩) else 0

/-- The result at batch `b`, position `s` and column `col`. -/
def result (q : (⟨4, ![2, 8192, 56, 128]⟩ : Shape).Idx → BitVec 8) (qs : (⟨1, ![56]⟩ : Shape).Idx → EReal)
    (k : (⟨4, ![2, 8192, 8, 128]⟩ : Shape).Idx → BitVec 8) (ks : (⟨1, ![8]⟩ : Shape).Idx → EReal)
    (v : (⟨4, ![2, 8192, 8, 128]⟩ : Shape).Idx → BitVec 8) (vs : (⟨2, ![8, 128]⟩ : Shape).Idx → EReal) (ps : EReal)
    (b : Fin 2) (s : Fin 8192) (col : Fin 7168) : EReal :=
  attn (queryCode q b s ⟨col.val / 128, by omega⟩) (seqCode k b ⟨col.val / 896, by omega⟩ (s.val / 128))
    (seqCode v b ⟨col.val / 896, by omega⟩ (s.val / 128)) (qs (ix1 ⟨col.val / 128, by omega⟩)) (ks (ix1 ⟨col.val / 896, by omega⟩)) ps
    (vs (ix2 ⟨col.val / 896, by omega⟩ ⟨col.val % 128, by omega⟩)) (s.val % 128) (col.val % 128)

end Win

end
-- ==== Proof.KernelSum.lean ====
/-
  The sums the kernel takes over a window.

  The kernel pairs each half window's queries with the 128 keys they see by two products: a wide one over 256
  columns and a narrow one over 128, in which the other half's columns meet zeros. These are the rearrangements.
-/
module

public import proofs.«01_k».proof.Proof.Attn

@[expose] public section

noncomputable section

namespace Win

open Idealize.ShloMosaic

/-- A sum over 256 in two halves. -/
theorem sum_halves (f : Fin 256 → EReal) :
    ∑ d : Fin 256, f d = ∑ d : Fin 128, f ⟨d.val, by omega⟩ + ∑ d : Fin 128, f ⟨128 + d.val, by omega⟩ :=
  Fin.sum_univ_add (a := 128) (b := 128) f

/-- A sum over 128 in two halves. -/
theorem sum_two (f : ℕ → EReal) :
    ∑ d : Fin 128, f d.val = ∑ y : Fin 64, (f y.val + f (64 + y.val)) := by
  rw [Finset.sum_add_distrib]
  exact Fin.sum_univ_add (a := 64) (b := 64) fun d => f d.val

/-- A sum over 256 in four quarters. -/
theorem sum_four (f : ℕ → EReal) :
    ∑ d : Fin 256, f d.val = ∑ y : Fin 64, (f y.val + f (64 + y.val) + (f (128 + y.val) + f (192 + y.val))) := by
  rw [sum_halves fun d => f d.val, sum_two f, sum_two fun d => f (128 + d), ← Finset.sum_add_distrib]
  refine Finset.sum_congr rfl fun y _ => ?_
  show _ = f y.val + f (64 + y.val) + (f (128 + y.val) + f (192 + y.val))
  rw [← Nat.add_assoc]

/-- The seen keys' weighted sum, as the kernel takes it. -/
theorem band_sum (W V P1 P2 : ℕ → EReal) (c x : ℕ) (hc : c < 2) (hx : x < 64)
    (h1 : ∀ y < 64, P1 (64 * c + y) = W (64 + (64 * c + y)))
    (h2 : ∀ y < 64, P1 (128 + (64 * c + y)) = if y ≤ x then W (128 + (64 * c + y)) else 0)
    (h3 : ∀ y < 64, P2 (64 * c + y) = if y ≤ x then 0 else W (64 * c + y)) :
    (∑ j : Fin 256, P1 j.val * (if j.val / 64 % 2 = c then V (if j.val < 128 then 64 + j.val else j.val) else 0))
      + ∑ j : Fin 128, P2 j.val * (if j.val / 64 = c then V j.val else 0)
      = ∑ j : Fin 256, if 64 * c + x < j.val ∧ j.val ≤ 64 * c + x + 128 then W j.val * V j.val else 0 := by
  rw [sum_four fun j => P1 j * (if j / 64 % 2 = c then V (if j < 128 then 64 + j else j) else 0),
    sum_two fun j => P2 j * (if j / 64 = c then V j else 0),
    sum_four fun j => if 64 * c + x < j ∧ j ≤ 64 * c + x + 128 then W j * V j else 0, ← Finset.sum_add_distrib]
  refine Finset.sum_congr rfl fun y _ => ?_
  have hy := y.isLt
  generalize y.val = y at hy ⊢
  have a1 := h1 y hy
  have a2 := h2 y hy
  have a3 := h3 y hy
  obtain rfl | rfl : c = 0 ∨ c = 1 := by omega
  · rw [if_pos (show y / 64 % 2 = 0 by omega), if_pos (show y < 128 by omega), if_neg (show ¬ (64 + y) / 64 % 2 = 0 by omega),
      if_pos (show (128 + y) / 64 % 2 = 0 by omega), if_neg (show ¬ 128 + y < 128 by omega), if_neg (show ¬ (192 + y) / 64 % 2 = 0 by omega),
      if_pos (show y / 64 = 0 by omega), if_neg (show ¬ (64 + y) / 64 = 0 by omega),
      if_pos (show 64 * 0 + x < 64 + y ∧ 64 + y ≤ 64 * 0 + x + 128 by omega),
      if_neg (show ¬ (64 * 0 + x < 192 + y ∧ 192 + y ≤ 64 * 0 + x + 128) by omega)]
    simp only [Nat.mul_zero, Nat.zero_add] at a1 a2 a3 ⊢
    rw [a1, a2, a3]
    by_cases h : y ≤ x
    · rw [if_pos h, if_pos h, if_neg (show ¬ (x < y ∧ y ≤ x + 128) by omega), if_pos (show x < 128 + y ∧ 128 + y ≤ x + 128 by omega)]
      simp only [mul_zero, zero_mul, add_zero, zero_add]
    · rw [if_neg h, if_neg h, if_pos (show x < y ∧ y ≤ x + 128 by omega), if_neg (show ¬ (x < 128 + y ∧ 128 + y ≤ x + 128) by omega)]
      simp only [mul_zero, zero_mul, add_zero, zero_add]
      rw [add_comm]
  · rw [if_neg (show ¬ y / 64 % 2 = 1 by omega), if_pos (show (64 + y) / 64 % 2 = 1 by omega), if_pos (show 64 + y < 128 by omega),
      if_neg (show ¬ (128 + y) / 64 % 2 = 1 by omega), if_pos (show (192 + y) / 64 % 2 = 1 by omega), if_neg (show ¬ 192 + y < 128 by omega),
      if_neg (show ¬ y / 64 = 1 by omega), if_pos (show (64 + y) / 64 = 1 by omega),
      if_neg (show ¬ (64 * 1 + x < y ∧ y ≤ 64 * 1 + x + 128) by omega),
      if_pos (show 64 * 1 + x < 128 + y ∧ 128 + y ≤ 64 * 1 + x + 128 by omega)]
    simp only [Nat.mul_one, ← Nat.add_assoc, Nat.reduceAdd] at a1 a2 a3 ⊢
    rw [a1, a2, a3]
    by_cases h : y ≤ x
    · rw [if_pos h, if_pos h, if_neg (show ¬ (64 + x < 64 + y ∧ 64 + y ≤ 64 + x + 128) by omega),
        if_pos (show 64 + x < 192 + y ∧ 192 + y ≤ 64 + x + 128 by omega)]
      simp only [mul_zero, zero_mul, add_zero, zero_add]
    · rw [if_neg h, if_neg h, if_pos (show 64 + x < 64 + y ∧ 64 + y ≤ 64 + x + 128 by omega),
        if_neg (show ¬ (64 + x < 192 + y ∧ 192 + y ≤ 64 + x + 128) by omega)]
      simp only [mul_zero, zero_mul, add_zero, zero_add]
      rw [add_comm]

end Win

end
-- ==== Proof.KernelValue.lean ====
/-
  What the body computes, element by element on the extended reals.

  Each theorem reads one of the body's arrays at an index, from the scores to the block's results.
-/
module

public import proofs.«01_k».proof.Proof.Spec
public import proofs.«01_k».proof.Proof.KernelSum
public import Idealize.ShloMosaic.Lib.MatmulPlain
public import Idealize.ShloMosaic.Lib.IdealHost
public import Idealize.ShloMosaic.Lib.ValueLayout
public import Idealize.ShloMosaic.Lib.WordCmp

@[expose] public section

set_option maxRecDepth 8192

noncomputable section

namespace Win

open Idealize.ShloMosaic hiding ix1 ix2 ix3 ix4 ix5 eq_ix1 eq_ix2 eq_ix3 eq_ix4 eq_ix5
open Idealize.ShloMosaic.ValueIdx

/-! ## The arrangements -/

/-- Two arrays stacked, read at an index. -/
theorem cat0_at {α : Type} {M m₁ m₂ n : ℕ} (hM : m₁ + m₂ = M) (x : (⟨2, ![m₁, n]⟩ : Shape).Idx → α) (y : (⟨2, ![m₂, n]⟩ : Shape).Idx → α)
    (h : Shape.Concatenates [⟨2, ![m₁, n]⟩, ⟨2, ![m₂, n]⟩] ⟨2, ![M, n]⟩ 0) (a : Fin M) (l : Fin n) :
    concatenate ⟨2, ![M, n]⟩ 0 [⟨⟨2, ![m₁, n]⟩, x⟩, ⟨⟨2, ![m₂, n]⟩, y⟩] h (ix2 a l)
      = if e : a.val < m₁ then x (ix2 ⟨a.val, e⟩ l) else y (ix2 ⟨a.val - m₁, by omega⟩ l) := by
  by_cases e : a.val < m₁
  · rw [dif_pos e]; exact cat0_left x y h a l ⟨a.val, e⟩ rfl
  · rw [dif_neg e]; exact cat0_right x y h a l ⟨a.val - m₁, by omega⟩ (by show a.val - m₁ + m₁ = a.val; omega)

/-- Two arrays side by side, read at an index. -/
theorem cat1_at {α : Type} {N n₁ n₂ m : ℕ} (hN : n₁ + n₂ = N) (x : (⟨2, ![m, n₁]⟩ : Shape).Idx → α) (y : (⟨2, ![m, n₂]⟩ : Shape).Idx → α)
    (h : Shape.Concatenates [⟨2, ![m, n₁]⟩, ⟨2, ![m, n₂]⟩] ⟨2, ![m, N]⟩ 1) (a : Fin m) (l : Fin N) :
    concatenate ⟨2, ![m, N]⟩ 1 [⟨⟨2, ![m, n₁]⟩, x⟩, ⟨⟨2, ![m, n₂]⟩, y⟩] h (ix2 a l)
      = if e : l.val < n₁ then x (ix2 a ⟨l.val, e⟩) else y (ix2 a ⟨l.val - n₁, by omega⟩) := by
  by_cases e : l.val < n₁
  · rw [dif_pos e]; exact cat1_left x y h a l ⟨l.val, e⟩ rfl
  · rw [dif_neg e]; exact cat1_right x y h a l ⟨l.val - n₁, by omega⟩ (by show l.val - n₁ + n₁ = l.val; omega)

/-- Rows of one head: each row is one token's codes, read as numbers. -/
theorem headR_at (c : Codes) (head first : ℕ) (y : Fin 64) (d : Fin 128) :
    headR (F := Ideal) c head first (ix2 y d) = dec (c (first + y.val) head d.val) := rfl

/-- The zero block holds zeros. -/
theorem zero64_at (y : Fin 64) (d : Fin 128) : zero64 (F := Ideal) (ix2 y d) = (0 : EReal) := dec_zero

/-- Two blocks beside one another. -/
theorem beside_at (l r : FVec Ideal S64x128 .fp8e4m3) (y : Fin 64) (d : Fin 256) :
    beside l r (ix2 y d) = if e : d.val < 128 then l (ix2 y ⟨d.val, e⟩) else r (ix2 y ⟨d.val - 128, by omega⟩) :=
  cat1_at rfl l r cat_beside y d

/-- Two blocks on a diagonal. -/
theorem diag_at (l r : FVec Ideal S64x128 .fp8e4m3) (j : Fin 128) (d : Fin 256) :
    diag l r (ix2 j d) = if e : j.val < 64 then beside l zero64 (ix2 ⟨j.val, e⟩ d) else beside zero64 r (ix2 ⟨j.val - 64, by omega⟩ d) :=
  cat0_at rfl (beside l zero64) (beside zero64 r) cat_diag j d

/-- Two blocks above one another. -/
theorem stack_at (t b : FVec Ideal S128x256 .fp8e4m3) (j : Fin 256) (d : Fin 256) :
    stack t b (ix2 j d) = if e : j.val < 128 then t (ix2 ⟨j.val, e⟩ d) else b (ix2 ⟨j.val - 128, by omega⟩ d) :=
  cat0_at rfl t b cat_stack j d

/-- The codes of the 256 keys or values one window sees. -/
def keys (prev : Codes) (x : S256x8x128.Idx → BitVec 8) (n g : ℕ) : ℕ → ℕ → BitVec 8 := fun k d =>
  if k < 128 then window prev x n k g d else window prev x (n + 1) (k - 128) g d

/-- The narrow arrangement: each row is one key, in its half's columns. -/
theorem narrow_at (prev : Codes) (x : S256x8x128.Idx → BitVec 8) (n g : ℕ) (j : Fin 128) (d : Fin 256) :
    narrow (F := Ideal) prev x n g (ix2 j d) = if j.val / 64 = d.val / 128 then dec (keys prev x n g j.val (d.val % 128)) else (0 : EReal) := by
  have hj := j.isLt
  have hd := d.isLt
  unfold narrow keys
  rw [diag_at, if_pos hj]
  by_cases h1 : j.val < 64 <;> by_cases h2 : d.val < 128
  · rw [dif_pos h1, beside_at, dif_pos h2, if_pos (by omega), headR_at]
    simp only [Nat.zero_add, Nat.mod_eq_of_lt h2]
  · rw [dif_pos h1, beside_at, dif_neg h2, if_neg (by omega), zero64_at]
  · rw [dif_neg h1, beside_at, dif_pos h2, if_neg (by omega), zero64_at]
  · rw [dif_neg h1, beside_at, dif_neg h2, if_pos (by omega), headR_at]
    rw [show 64 + (⟨j.val - 64, by omega⟩ : Fin 64).val = j.val by show 64 + (j.val - 64) = j.val; omega,
      show (⟨d.val - 128, by omega⟩ : Fin 128).val = d.val % 128 by show d.val - 128 = d.val % 128; omega]

/-- The wide arrangement: each row is one key, in its half's columns. -/
theorem wide_at (prev : Codes) (x : S256x8x128.Idx → BitVec 8) (n g : ℕ) (j : Fin 256) (d : Fin 256) :
    wide (F := Ideal) prev x n g (ix2 j d)
      = if j.val / 64 % 2 = d.val / 128 then dec (keys prev x n g (if j.val < 128 then 64 + j.val else j.val) (d.val % 128)) else (0 : EReal) := by
  have hj := j.isLt
  have hd := d.isLt
  unfold wide keys
  rw [stack_at]
  by_cases h0 : j.val < 128
  · rw [dif_pos h0, diag_at, if_pos h0]
    by_cases h1 : j.val < 64 <;> by_cases h2 : d.val < 128
    · rw [dif_pos (show (⟨j.val, h0⟩ : Fin 128).val < 64 from h1), beside_at, dif_pos h2, if_pos (by omega), headR_at, if_pos (by omega)]
      simp only [Nat.mod_eq_of_lt h2]
    · rw [dif_pos (show (⟨j.val, h0⟩ : Fin 128).val < 64 from h1), beside_at, dif_neg h2, if_neg (by omega), zero64_at]
    · rw [dif_neg (show ¬ (⟨j.val, h0⟩ : Fin 128).val < 64 from h1), beside_at, dif_pos h2, if_neg (by omega), zero64_at]
    · rw [dif_neg (show ¬ (⟨j.val, h0⟩ : Fin 128).val < 64 from h1), beside_at, dif_neg h2, if_pos (by omega), headR_at, if_neg (by omega)]
      rw [show 0 + (⟨j.val - 64, by omega⟩ : Fin 64).val = 64 + j.val - 128 by show 0 + (j.val - 64) = _; omega,
        show (⟨d.val - 128, by omega⟩ : Fin 128).val = d.val % 128 by show d.val - 128 = d.val % 128; omega]
  · rw [dif_neg h0, diag_at, if_neg h0]
    by_cases h1 : j.val - 128 < 64 <;> by_cases h2 : d.val < 128
    · rw [dif_pos (show (⟨j.val - 128, by omega⟩ : Fin 128).val < 64 from h1), beside_at, dif_pos h2, if_pos (by omega), headR_at, if_neg (by omega)]
      simp only [Nat.zero_add, Nat.mod_eq_of_lt h2]
    · rw [dif_pos (show (⟨j.val - 128, by omega⟩ : Fin 128).val < 64 from h1), beside_at, dif_neg h2, if_neg (by omega), zero64_at]
    · rw [dif_neg (show ¬ (⟨j.val - 128, by omega⟩ : Fin 128).val < 64 from h1), beside_at, dif_pos h2, if_neg (by omega), zero64_at]
    · rw [dif_neg (show ¬ (⟨j.val - 128, by omega⟩ : Fin 128).val < 64 from h1), beside_at, dif_neg h2, if_pos (by omega), headR_at, if_neg (by omega)]
      rw [show 64 + (⟨j.val - 128 - 64, by omega⟩ : Fin 64).val = j.val - 128 by show 64 + (j.val - 128 - 64) = _; omega,
        show (⟨d.val - 128, by omega⟩ : Fin 128).val = d.val % 128 by show d.val - 128 = d.val % 128; omega]

/-- Seven arrays stacked, read at an index. -/
theorem stack7_at (x : Fin 7 → FVec Ideal S64x256 .fp8e4m3) (row : Fin 448) (d : Fin 256) :
    stack7 (x 0) (x 1) (x 2) (x 3) (x 4) (x 5) (x 6) (ix2 row d)
      = x ⟨row.val / 64, by omega⟩ (ix2 (⟨row.val % 64, by omega⟩ : Fin 64) d) :=
  concatenate_ofFn_apply (t := S448x256) (s₁ := S64x256) 0 x cat_seven rfl 64 rfl (ix2 row d) ⟨row.val / 64, by omega⟩ rfl
    (ix2 (⟨row.val % 64, by omega⟩ : Fin 64) d) rfl
    (fun b hb => match b, hb with | ⟨0, _⟩, hb => absurd rfl hb | ⟨1, _⟩, _ => rfl)

variable (I : Inp Ideal)

/-- A query row. -/
theorem qall_at (n g : ℕ) (row : Fin 448) (d : Fin 256) :
    qall I n g (ix2 row d)
      = dec (code3 I.q (n * 128 + 64 * (d.val / 128) + row.val % 64) (g * 7 + row.val / 64) (d.val % 128)) := by
  have hd := d.isLt
  refine (stack7_at (fun r => qrow I n (g * 7 + r.val)) row d).trans ?_
  show qrow I n (g * 7 + row.val / 64) _ = _
  unfold qrow
  rw [beside_at]
  by_cases h : d.val < 128
  · rw [dif_pos h, headR_at]
    rw [show d.val / 128 = 0 by omega, Nat.mod_eq_of_lt h]
    rfl
  · rw [dif_neg h, headR_at]
    rw [show d.val / 128 = 1 by omega, show (⟨d.val - 128, by omega⟩ : Fin 128).val = d.val % 128 by show d.val - 128 = d.val % 128; omega]

/-! ## The scores -/

/-- A product of two arranged rows keeps the columns of the second row's half. -/
theorem row_dot (q : ℕ → ℕ → BitVec 8) (k : ℕ → BitVec 8) (c : ℕ) (hc : c < 2) :
    ∑ d : Fin 256, dec (q (d.val / 128) (d.val % 128)) * (if c = d.val / 128 then dec (k (d.val % 128)) else 0) = dotQK (q c) k := by
  have e1 : ∀ d : Fin 128, (d.val / 128 = 0 ∧ d.val % 128 = d.val) ∧ ((128 + d.val) / 128 = 1 ∧ (128 + d.val) % 128 = d.val) := by
    intro d; have := d.isLt; omega
  rw [sum_halves]
  unfold dotQK
  simp only [(e1 _).1.1, (e1 _).1.2, (e1 _).2.1, (e1 _).2.2]
  obtain rfl | rfl : c = 0 ∨ c = 1 := by omega
  · simp only [if_pos, if_neg (show ¬ (0 : ℕ) = 1 by decide), mul_zero, Finset.sum_const_zero, add_zero]
  · simp only [if_pos, if_neg (show ¬ (1 : ℕ) = 0 by decide), mul_zero, Finset.sum_const_zero, zero_add]

/-- A query of the block. -/
def query (n head c x : ℕ) : ℕ → BitVec 8 := fun d => code3 I.q (n * 128 + 64 * c + x) head d

/-- The wide product: each query with one key of its half. -/
theorem scores1_at (n g : ℕ) (row : Fin 448) (j : Fin 256) :
    scores1 (qall I n g) (wide I.kp I.k n g) (ix2 row j)
      = dotQK (query I n (g * 7 + row.val / 64) (j.val / 64 % 2) (row.val % 64))
          (keys I.kp I.k n g (if j.val < 128 then 64 + j.val else j.val)) := by
  refine (Ideal.matmul_transposedRhs_apply (M := 448) (K := 256) (N := 256) none (qall I n g) (wide I.kp I.k n g)
    (constant S448x256 .f32 0x00000000#32) row j).trans ?_
  rw [show constant (F := Ideal) S448x256 .f32 0x00000000#32 (ix2 row j) = (0 : EReal) from Ideal.ofBits_zero_f32, zero_add,
    ← row_dot (fun c d => query I n (g * 7 + row.val / 64) c (row.val % 64) d) _ (j.val / 64 % 2) (by omega)]
  exact Finset.sum_congr rfl fun d _ => by rw [qall_at, wide_at]; rfl

/-- The narrow product: each query with one key of the first half window. -/
theorem scores2_at (n g : ℕ) (row : Fin 448) (j : Fin 128) :
    scores2 (qall I n g) (narrow I.kp I.k n g) (ix2 row j)
      = dotQK (query I n (g * 7 + row.val / 64) (j.val / 64) (row.val % 64)) (keys I.kp I.k n g j.val) := by
  refine (Ideal.matmul_transposedRhs_apply (M := 448) (K := 256) (N := 128) none (qall I n g) (narrow I.kp I.k n g)
    (constant S448x128 .f32 0x00000000#32) row j).trans ?_
  rw [show constant (F := Ideal) S448x128 .f32 0x00000000#32 (ix2 row j) = (0 : EReal) from Ideal.ofBits_zero_f32, zero_add,
    ← row_dot (fun c d => query I n (g * 7 + row.val / 64) c (row.val % 64) d) _ (j.val / 64) (by omega)]
  exact Finset.sum_congr rfl fun d _ => by rw [qall_at, narrow_at]; rfl

/-- The mask at an index. -/
theorem causal_at (y : Fin 64) (d : Fin 128) : causal (ix2 y d) = BitVec.ofBool (decide (d.val % 64 ≤ y.val)) := by
  have hy := y.isLt
  have hd := d.isLt
  unfold causal
  show IntOp.cmpi .sle (IntOp.andi (iota .tc S64x128 32 [1] _ (ix2 y d)) 63#32) (iota .tc S64x128 32 [0] _ (ix2 y d)) = _
  rw [iota_single_apply, iota_single_apply]
  show IntOp.cmpi .sle (IntOp.andi (BitVec.ofNat 32 d.val) 63#32) (BitVec.ofNat 32 y.val) = _
  rw [show IntOp.andi (BitVec.ofNat 32 d.val) 63#32 = BitVec.ofNat 32 (d.val % 64) from ?_,
    WordCmp.cmpi_sle_ofNat (by omega) (by omega)]
  apply BitVec.eq_of_toNat_eq
  show (BitVec.ofNat 32 d.val &&& 63#32).toNat = _
  rw [BitVec.toNat_and, BitVec.toNat_ofNat, BitVec.toNat_ofNat, BitVec.toNat_ofNat, Nat.mod_eq_of_lt (by omega : d.val < 2 ^ 32),
    Nat.mod_eq_of_lt (by omega : d.val % 64 < 2 ^ 32)]
  exact Nat.and_two_pow_sub_one_eq_mod d.val 6

/-- A selection by a decided bit is a case distinction. -/
theorem select_dec {α : Type} (p : Prop) [Decidable p] (a b : α) : Scalar.select (BitVec.ofBool (decide p)) a b = if p then a else b := by
  by_cases h : p
  · rw [if_pos h, decide_eq_true h]; rfl
  · rw [if_neg h, decide_eq_false h]; rfl

/-- The key that a stored score is of. -/
def keyOf (x j : ℕ) : ℕ := if j < 128 then 64 + j else if j % 64 ≤ x then j else j - 128

/-- A stored score. -/
theorem scoreT_at (n g : ℕ) (row : Fin 448) (j : Fin 256) :
    scoreT I n g (ix2 row j)
      = dotQK (query I n (g * 7 + row.val / 64) (j.val / 64 % 2) (row.val % 64)) (keys I.kp I.k n g (keyOf (row.val % 64) j.val)) := by
  have hj := j.isLt
  have hr := row.isLt
  unfold scoreT keyOf
  by_cases h : j.val < 128
  · rw [dif_pos (show ((ix2 row j : S448x256.Idx) 1).val < 128 from h), if_pos h]
    unfold scoreA
    rw [shapeCast_ab_1ab_apply, extractStridedSlice_apply _ _ _ _ (ix2 row j) (fun a => match a with
      | ⟨0, _⟩ => (by show row.val = row.val / 64 * 64 + row.val % 64; omega)
      | ⟨1, _⟩ => (by show j.val = 0 + j.val; omega)), scores1_at, if_pos h]
  · rw [dif_neg (show ¬ ((ix2 row j : S448x256.Idx) 1).val < 128 from h), if_neg h]
    unfold scoreB
    rw [shapeCast_ab_1ab_apply, select_apply, causal_at, select_dec, extractStridedSlice_apply _ _ _ _ (ix2 row j) (fun a => match a with
      | ⟨0, _⟩ => (by show row.val = row.val / 64 * 64 + row.val % 64; omega)
      | ⟨1, _⟩ => (by show j.val = 128 + (j.val - 128); omega)),
      extractStridedSlice_apply _ _ _ _ (ix2 row (⟨j.val - 128, by omega⟩ : Fin 128)) (fun a => match a with
      | ⟨0, _⟩ => (by show row.val = row.val / 64 * 64 + row.val % 64; omega)
      | ⟨1, _⟩ => (by show j.val - 128 = 0 + (j.val - 128); omega)), scores1_at, scores2_at, if_neg h]
    show (if (j.val - 128) % 64 ≤ row.val % 64 then _ else dotQK (query I n _ ((j.val - 128) / 64) _) (keys I.kp I.k n g (j.val - 128))) = _
    rw [show (j.val - 128) % 64 = j.val % 64 by omega, show (j.val - 128) / 64 = j.val / 64 % 2 by omega]
    split <;> rfl

/-! ## The weights -/

/-- A weight. -/
theorem wrow_at (n : ℕ) (g : Fin 8) (r : Fin 7) (x : Fin 64) (j : Fin 256) :
    wrow I n g r (ix2 x j)
      = wt (I.qs (ix1 (⟨g.val * 7 + r.val, by omega⟩ : Fin 56))) (I.ks (ix1 g)) (I.ps (ix1 (0 : Fin 1)))
          (dotQK (query I n (g.val * 7 + r.val) (j.val / 64 % 2) x.val) (keys I.kp I.k n g.val (keyOf x.val j.val))) := by
  have hx := x.isLt
  have hr := r.isLt
  have e := scoreT_at I n g.val (⟨r.val * 64 + x.val, by omega⟩ : Fin 448) j
  rw [show (⟨r.val * 64 + x.val, by omega⟩ : Fin 448).val / 64 = r.val by show (r.val * 64 + x.val) / 64 = r.val; omega,
    show (⟨r.val * 64 + x.val, by omega⟩ : Fin 448).val % 64 = x.val by show (r.val * 64 + x.val) % 64 = x.val; omega] at e
  unfold wrow weights
  show min (Ideal.ofBits .f32 0x43E00000#32) (max (Ideal.ofBits .f32 0x00000000#32)
    (Ideal.logistic (shapeCast S64x256 (srow I n g r) _ (ix2 x j) * (_ * _ * Ideal.ofBits .f32 0x3DB504F3#32) + Ideal.ofBits .f32 0xC09B43D5#32)
      * broadcastTo S64x256 _ _ (ix2 x j))) = _
  rw [shapeCast_1ab_ab_apply, Ideal.ofBits_zero_f32, broadcastTo_apply _ _ _ (ix2 (0 : Fin 1) (0 : Fin 1)) (fun a => match a with
      | ⟨0, _⟩ => rfl | ⟨1, _⟩ => rfl),
    extractStridedSlice_apply _ _ _ _ (ix2 (0 : Fin 1) (0 : Fin 128)) (fun a => match a with
      | ⟨0, _⟩ => rfl | ⟨1, _⟩ => rfl)]
  rw [show srow I n g.val r (ix3 (0 : Fin 1) x j) = _ from e]
  unfold invps
  show min _ (max 0 (_ * Ideal.div (Ideal.ofBits .f32 0x3F800000#32) (I.ps (ix1 (0 : Fin 1))))) = _
  rw [Ideal.ofBits_one_f32]
  rfl

/-- The weights the wide product takes. -/
theorem p1T_at (n : ℕ) (g : Fin 8) (row : Fin 448) (j : Fin 256) :
    p1T I n g (ix2 row j) = if j.val < 128 ∨ j.val % 64 ≤ row.val % 64
      then (wrow I n g ⟨row.val / 64, by omega⟩ (ix2 (⟨row.val % 64, by omega⟩ : Fin 64) j) : EReal) else 0 := by
  have hj := j.isLt
  unfold p1T
  by_cases h : j.val < 128
  · rw [dif_pos (show ((ix2 row j : S448x256.Idx) 1).val < 128 from h), if_pos (Or.inl h)]
    unfold codesA toRow
    rw [shapeCast_ab_1ab_apply]
    show extractStridedSlice S64x128 ![0, 0] (wrow I n g _) (by decide) (ix2 _ _) = _
    exact extractStridedSlice_apply _ _ _ _ (ix2 (⟨row.val % 64, by omega⟩ : Fin 64) j) (fun a => match a with
      | ⟨0, _⟩ => (by show row.val % 64 = 0 + row.val % 64; omega)
      | ⟨1, _⟩ => (by show j.val = 0 + j.val; omega))
  · rw [dif_neg (show ¬ ((ix2 row j : S448x256.Idx) 1).val < 128 from h)]
    unfold codesB toRow
    rw [shapeCast_ab_1ab_apply]
    show select causal _ zero64 (ix2 _ _) = _
    rw [select_apply, causal_at, select_dec, zero64_at, extractStridedSlice_apply _ _ _ _ (ix2 (⟨row.val % 64, by omega⟩ : Fin 64) j) (fun a => match a with
      | ⟨0, _⟩ => (by show row.val % 64 = 0 + row.val % 64; omega)
      | ⟨1, _⟩ => (by show j.val = 128 + (j.val - 128); omega))]
    show (if (j.val - 128) % 64 ≤ row.val % 64 then _ else _) = _
    rw [show (j.val - 128) % 64 = j.val % 64 by omega]
    exact if_congr (by simp only [h, false_or]) rfl rfl

/-- The weights the narrow product takes. -/
theorem p2T_elem (n : ℕ) (g : Fin 8) (row : Fin 448) (j : Fin 128) :
    p2T I n g (ix2 row j) = if j.val % 64 ≤ row.val % 64 then 0
      else (wrow I n g ⟨row.val / 64, by omega⟩ (ix2 (⟨row.val % 64, by omega⟩ : Fin 64) (⟨128 + j.val, by omega⟩ : Fin 256)) : EReal) := by
  unfold p2T codesC toRow
  rw [shapeCast_ab_1ab_apply]
  show select causal zero64 _ (ix2 _ _) = _
  rw [select_apply, causal_at, select_dec, zero64_at, extractStridedSlice_apply _ _ _ _ (ix2 (⟨row.val % 64, by omega⟩ : Fin 64) (⟨128 + j.val, by omega⟩ : Fin 256)) (fun a => match a with
    | ⟨0, _⟩ => (by show row.val % 64 = 0 + row.val % 64; omega)
    | ⟨1, _⟩ => rfl)]

/-! ## The results -/

/-- A weighted sum. -/
theorem sums_at (n : ℕ) (g : Fin 8) (row : Fin 448) (l : Fin 256) :
    sums (F := Ideal) (fun j => p1T I n g (ix2 (j 1 : Fin 448) (j 2 : Fin 256))) (fun j => p2T I n g (ix2 (j 1 : Fin 448) (j 2 : Fin 128)))
      (wide I.vp I.v n g) (narrow I.vp I.v n g) (ix2 row l)
      = (∑ j : Fin 256, (p1T I n g (ix2 row j) : EReal) * (if j.val / 64 % 2 = l.val / 128
            then dec (keys I.vp I.v n g (if j.val < 128 then 64 + j.val else j.val) (l.val % 128)) else 0))
        + ∑ j : Fin 128, (p2T I n g (ix2 row j) : EReal) * (if j.val / 64 = l.val / 128 then dec (keys I.vp I.v n g j.val (l.val % 128)) else 0) := by
  unfold sums
  refine (congrArg₂ (fun a b : EReal => a + b)
    (Ideal.matmul_plain_apply (M := 448) (K := 256) (N := 256) none
      (shapeCast S448x256 (fun j : S1x448x256.Idx => p1T I n g (ix2 (j 1 : Fin 448) (j 2 : Fin 256))) (by decide)) (wide I.vp I.v n g)
      (constant S448x256 .f32 0x00000000#32) row l)
    (Ideal.matmul_plain_apply (M := 448) (K := 128) (N := 256) none
      (shapeCast S448x128 (fun j : S1x448x128.Idx => p2T I n g (ix2 (j 1 : Fin 448) (j 2 : Fin 128))) (by decide)) (narrow I.vp I.v n g)
      (constant S448x256 .f32 0x00000000#32) row l)).trans ?_
  rw [show constant (F := Ideal) S448x256 .f32 0x00000000#32 (ix2 row l) = (0 : EReal) from Ideal.ofBits_zero_f32, zero_add, zero_add]
  refine congrArg₂ (fun a b : EReal => a + b) (Finset.sum_congr rfl fun j _ => ?_) (Finset.sum_congr rfl fun j _ => ?_)
  · rw [shapeCast_1ab_ab_apply, wide_at]
  · rw [shapeCast_1ab_ab_apply, narrow_at]

/-- One head's result in one half window. -/
theorem outR_at (n : ℕ) (g : Fin 8) (r : Fin 7) (c : Fin 2) (x : Fin 64) (d : Fin 128) :
    outR I n g r c (ix2 x d)
      = attn (query I n (g.val * 7 + r.val) c.val x.val) (keys I.kp I.k n g.val) (keys I.vp I.v n g.val)
          (I.qs (ix1 (⟨g.val * 7 + r.val, by omega⟩ : Fin 56))) (I.ks (ix1 g)) (I.ps (ix1 (0 : Fin 1))) (I.vs (ix2 g d)) (64 * c.val + x.val) d.val := by
  have hr := r.isLt
  have hc := c.isLt
  have hx := x.isLt
  have hd := d.isLt
  unfold outR outBlock attn
  show (extractStridedSlice (s := S448x256) S64x128 ![r.val * 64, c.val * 128] (sums (F := Ideal) _ _ _ _) _ (ix2 x d) : EReal)
    * (broadcastTo (s := S1x128) S64x128 (outscale (F := Ideal) _ _) _ (ix2 x d) : EReal) = _
  rw [broadcastTo_1b_ab_apply,
    extractStridedSlice_apply _ _ _ _ (ix2 (⟨r.val * 64 + x.val, by omega⟩ : Fin 448) (⟨c.val * 128 + d.val, by omega⟩ : Fin 256))
      (fun a => match a with | ⟨0, _⟩ => rfl | ⟨1, _⟩ => rfl), sums_at]
  refine congrArg₂ (fun a b : EReal => a * b) ?_ rfl
  rw [← band_sum (fun j => wt (I.qs (ix1 (⟨g.val * 7 + r.val, by omega⟩ : Fin 56))) (I.ks (ix1 g)) (I.ps (ix1 (0 : Fin 1)))
      (dotQK (query I n (g.val * 7 + r.val) c.val x.val) (keys I.kp I.k n g.val j))) (fun j => dec (keys I.vp I.v n g.val j d.val))
    (fun j => if h : j < 256 then (p1T I n g (ix2 (⟨r.val * 64 + x.val, by omega⟩ : Fin 448) ⟨j, h⟩) : EReal) else 0)
    (fun j => if h : j < 128 then (p2T I n g (ix2 (⟨r.val * 64 + x.val, by omega⟩ : Fin 448) ⟨j, h⟩) : EReal) else 0) c.val x.val hc hx ?_ ?_ ?_]
  · refine congrArg₂ (fun a b : EReal => a + b) (Finset.sum_congr rfl fun j _ => ?_) (Finset.sum_congr rfl fun j _ => ?_)
    · rw [dif_pos j.isLt, show (⟨c.val * 128 + d.val, by omega⟩ : Fin 256).val / 128 = c.val by show (c.val * 128 + d.val) / 128 = c.val; omega,
        show (⟨c.val * 128 + d.val, by omega⟩ : Fin 256).val % 128 = d.val by show (c.val * 128 + d.val) % 128 = d.val; omega]
    · rw [dif_pos j.isLt, show (⟨c.val * 128 + d.val, by omega⟩ : Fin 256).val / 128 = c.val by show (c.val * 128 + d.val) / 128 = c.val; omega,
        show (⟨c.val * 128 + d.val, by omega⟩ : Fin 256).val % 128 = d.val by show (c.val * 128 + d.val) % 128 = d.val; omega]
  all_goals
    intro y hy
    have e0 : (r.val * 64 + x.val) / 64 = r.val := by omega
    have e1 : (r.val * 64 + x.val) % 64 = x.val := by omega
  · have e2 : (64 * c.val + y) / 64 % 2 = c.val := by omega
    rw [dif_pos (by omega), p1T_at, if_pos (Or.inl (by show 64 * c.val + y < 128; omega)), wrow_at]
    simp only [e0, e1, e2, keyOf, if_pos (show 64 * c.val + y < 128 by omega)]
  · have e2 : (128 + (64 * c.val + y)) / 64 % 2 = c.val := by omega
    have e3 : (128 + (64 * c.val + y)) % 64 = y := by omega
    have e4 : ¬ 128 + (64 * c.val + y) < 128 := by omega
    rw [dif_pos (by omega), p1T_at, wrow_at]
    simp only [e0, e1, e2, e3, e4, false_or, keyOf, if_false]
    by_cases h : y ≤ x.val
    · simp only [if_pos h]
    · simp only [if_neg h]
  · have e2 : (128 + (64 * c.val + y)) / 64 % 2 = c.val := by omega
    have e3 : (128 + (64 * c.val + y)) % 64 = y := by omega
    have e4 : ¬ 128 + (64 * c.val + y) < 128 := by omega
    have e5 : (64 * c.val + y) % 64 = y := by omega
    rw [dif_pos (by omega), p2T_elem, wrow_at]
    simp only [e0, e1, e2, e3, e4, e5, keyOf, if_false]
    by_cases h : y ≤ x.val
    · simp only [if_pos h]
    · simp only [if_neg h, Nat.add_sub_cancel_left]

/-- The block's results. -/
theorem outT_elem (i : Fin 256) (col : Fin 7168) :
    outT I (ix2 i col)
      = attn (query I (i.val / 128) (col.val / 128) (i.val / 64 % 2) (i.val % 64)) (keys I.kp I.k (i.val / 128) (col.val / 896))
          (keys I.vp I.v (i.val / 128) (col.val / 896)) (I.qs (ix1 (⟨col.val / 128, by omega⟩ : Fin 56)))
          (I.ks (ix1 (⟨col.val / 896, by omega⟩ : Fin 8))) (I.ps (ix1 (0 : Fin 1)))
          (I.vs (ix2 (⟨col.val / 896, by omega⟩ : Fin 8) (⟨col.val % 128, by omega⟩ : Fin 128))) (i.val % 128) (col.val % 128) := by
  have e1 : col.val / 128 / 7 * 7 + col.val / 128 % 7 = col.val / 128 := by omega
  have e2 : col.val / 128 / 7 = col.val / 896 := by omega
  have e3 : 64 * (i.val / 64 % 2) + i.val % 64 = i.val % 128 := by omega
  refine (outR_at I (i.val / 128) ⟨col.val / 128 / 7, by omega⟩ ⟨col.val / 128 % 7, by omega⟩ ⟨i.val / 64 % 2, by omega⟩
    (⟨i.val % 64, by omega⟩ : Fin 64) (⟨col.val % 128, by omega⟩ : Fin 128)).trans ?_
  simp only [e1, e3]
  simp only [e2]

end Win

end
-- ==== Proof.KernelIdealValue.lean ====
/-
  The kernel's result, element by element: the attention over the seen keys.
-/
module

public import proofs.«01_k».proof.Proof.KernelIdealRun
public import proofs.«01_k».proof.Proof.KernelValue
public import Idealize.ShloMosaic.Lib.Pipeline.ValueKit
public import Idealize.ShloMosaic.Lib.StableHlo.ReadAt

@[expose] public section

set_option maxRecDepth 16384

noncomputable section

namespace Win

open Idealize.ShloMosaic

/-- An element of the attention knows only the codes of its 256 keys and 128 lanes. -/
theorem attn_congr {q q' : ℕ → BitVec 8} {k k' v v' : ℕ → ℕ → BitVec 8} (qs ks ps vs : EReal) (a : ℕ) {d : ℕ} (hd : d < 128)
    (hq : ∀ d < 128, q d = q' d) (hk : ∀ j < 256, ∀ d < 128, k j d = k' j d) (hv : ∀ j < 256, ∀ d < 128, v j d = v' j d) :
    attn q k v qs ks ps vs a d = attn q' k' v' qs ks ps vs a d := by
  have hdot (j : Fin 256) : dotQK q (k j.val) = dotQK q' (k' j.val) := by
    unfold dotQK
    exact Finset.sum_congr rfl fun x _ => by rw [hq x.val x.isLt, hk j.val j.isLt x.val x.isLt]
  unfold attn
  refine congrArg (fun x : EReal => x * (ps * vs)) (Finset.sum_congr rfl fun j _ => ?_)
  rw [hdot j, hv j.val j.isLt d hd]

/-- A code inside the sequence. -/
theorem seqCode_of (x : (⟨4, ![2, 8192, 8, 128]⟩ : Shape).Idx → BitVec 8) (b : Fin 2) (g : Fin 8) {n k d : ℕ} (s : Fin 8192) (hd : d < 128)
    (h : n * 128 + k = s.val + 128) : seqCode x b g n k d = x (ix4 b s g ⟨d, hd⟩) := by
  have hs := s.isLt
  unfold seqCode
  rw [dif_pos ⟨by omega, by omega, hd⟩]
  congr 2
  exact Fin.ext (by dsimp only; omega)

/-- The codes of the two windows a block's window sees are the sequence's. -/
theorem keys_eq (x : (⟨4, ![2, 8192, 8, 128]⟩ : Shape).Idx → BitVec 8) (blk blk' : S256x8x128.Idx → BitVec 8) (b : Fin 2) {t : ℕ} (ht : t < 32)
    (hb : ∀ (i : Fin 256) (g : Fin 8) (d : Fin 128), blk (ix3 i g d) = x (ix4 b (⟨t * 256 + i.val, by omega⟩ : Fin 8192) g d))
    (hb' : t ≠ 0 → ∀ (i : Fin 256) (g : Fin 8) (d : Fin 128), blk' (ix3 i g d) = x (ix4 b (⟨(t - 1) * 256 + i.val, by omega⟩ : Fin 8192) g d))
    {n : ℕ} (hn : n < 2) (g : Fin 8) {k d : ℕ} (hk : k < 256) (hd : d < 128) :
    keys (if t = 0 then (fun _ _ _ => 0) else window (fun _ _ _ => 0) blk' 2) blk n g.val k d = seqCode x b g (2 * t + n) k d := by
  have own (p : ℕ) (hp : p < 256) (e : (2 * t + n) * 128 + k = t * 256 + p + 128) : code3 blk p g.val d = seqCode x b g (2 * t + n) k d := by
    rw [code3_of blk hp g.isLt hd, seqCode_of x b g (⟨t * 256 + p, by omega⟩ : Fin 8192) hd e]
    exact hb ⟨p, hp⟩ g ⟨d, hd⟩
  unfold keys
  split
  · rename_i h
    unfold window
    split
    · rename_i h0
      subst h0
      split
      · rename_i h1
        subst h1
        unfold seqCode
        rw [dif_neg (by omega)]
      · rename_i h1
        rw [if_neg (by decide)]
        have hp : k + 128 * (2 - 1) < 256 := by omega
        rw [code3_of blk' hp g.isLt hd, seqCode_of x b g (⟨(t - 1) * 256 + (k + 128 * (2 - 1)), by omega⟩ : Fin 8192) hd (by dsimp only; omega)]
        exact hb' h1 ⟨_, hp⟩ g ⟨d, hd⟩
    · exact own _ (by omega) (by omega)
  · unfold window
    rw [if_neg (by omega)]
    exact own _ (by omega) (by omega)

end Win

namespace Cert.KernelIdeal.Val

open Idealize.ShloMosaic Idealize.ShloMosaic.TcCoe Idealize.SL Idealize.SL.Sem
open Cert.KernelIdeal.Gen Cert.KernelIdeal.Run Win

attribute [local instance] Cert.KernelIdeal.Gen.facts

variable (m : (ℓ : Loc nD τ sig) → Buf (Elt Ideal) ℓ) (ρ : Dev nD → PrngReg) (c : Dev nD)

/-- The queries. -/
abbrev argQ : S2x8192x56x128.Idx → BitVec 8 := m ((c : Thread nD τ).loc main_arg0)
/-- The queries' scales. -/
abbrev argQs : Cert.KernelIdeal.S56.Idx → EReal := m ((c : Thread nD τ).loc main_arg1)
/-- The keys. -/
abbrev argK : S2x8192x8x128.Idx → BitVec 8 := m ((c : Thread nD τ).loc main_arg2)
/-- The keys' scales. -/
abbrev argKs : Cert.KernelIdeal.S8.Idx → EReal := m ((c : Thread nD τ).loc main_arg3)
/-- The values. -/
abbrev argV : S2x8192x8x128.Idx → BitVec 8 := m ((c : Thread nD τ).loc main_arg4)
/-- The values' scales. -/
abbrev argVs : Cert.KernelIdeal.S8x128.Idx → EReal := m ((c : Thread nD τ).loc main_arg5)
/-- The weights' scale. -/
abbrev argPs : S_.Idx → EReal := m ((c : Thread nD τ).loc main_arg6)

/-- The host operations before the kernel, as one list. -/
theorem V_eq (b : Ref sig .tc) : V m c b = StableHlo.after hostOps0 (fun b => m (c, b)) (Proc.devRef .tc b) := by
  show StableHlo.after (List.flatten [hostOps0]) _ _ = _
  rw [List.flatten_cons, List.flatten_nil, List.append_nil]

/-- The weights' scale as an array of one element. -/
theorem v0_at (i : Fin 1) : V m c main_v0 (ix1 i) = argPs m c ix0 := by
  rw [V_eq]
  after_reads_at

/-- The queries with the batches' rows one after another. -/
theorem v1_at (R : Fin 16384) (h : Fin 56) (d : Fin 128) :
    V m c main_v1 (ix3 R h d) = argQ m c (ix4 (⟨R.val / 8192, by omega⟩ : Fin 2) (⟨R.val % 8192, by omega⟩ : Fin 8192) h d) := by
  rw [V_eq]
  after_reads_at

/-- The keys with the batches' rows one after another. -/
theorem v2_at (R : Fin 16384) (h : Fin 8) (d : Fin 128) :
    V m c main_v2 (ix3 R h d) = argK m c (ix4 (⟨R.val / 8192, by omega⟩ : Fin 2) (⟨R.val % 8192, by omega⟩ : Fin 8192) h d) := by
  rw [V_eq]
  after_reads_at

/-- The values with the batches' rows one after another. -/
theorem v3_at (R : Fin 16384) (h : Fin 8) (d : Fin 128) :
    V m c main_v3 (ix3 R h d) = argV m c (ix4 (⟨R.val / 8192, by omega⟩ : Fin 2) (⟨R.val % 8192, by omega⟩ : Fin 8192) h d) := by
  rw [V_eq]
  after_reads_at

/-- Where each window's block lies at each grid point. -/
theorem idx : ∀ t : Fin cfg0.N, win0_0.index t = ![0] ∧ win0_1.index t = ![0] ∧ win0_2.index t = ![0] ∧ win0_3.index t = ![t.val, 0, 0]
    ∧ win0_4.index t = ![t.val, 0, 0] ∧ win0_5.index t = ![t.val, 0, 0] ∧ win0_6.index t = ![0, 0] ∧ win0_7.index t = ![t.val, 0] :=
  (by decide +kernel : ∀ t : Fin grid0.N, _)

/-- There are 64 grid points. -/
theorem N_eq : cfg0.N = 64 := by decide

/-- A grid point's number. -/
theorem point_lt (t : Fin cfg0.N) : t.val < 64 := lt_of_lt_of_eq t.isLt N_eq

/-- The queries of a block. -/
theorem q_at (t : Fin cfg0.N) (i : Fin 256) (h : Fin 56) (d : Fin 128) :
    (iblk m c 3 t : Win.S256x56x128.Idx → BitVec 8) (ix3 i h d)
      = argQ m c (ix4 (⟨t.val / 32, by have := point_lt t; omega⟩ : Fin 2) (⟨t.val % 32 * 256 + i.val, by omega⟩ : Fin 8192) h d) := by
  have ht := point_lt t
  have e : (iblk m c 3 t : Win.S256x56x128.Idx → BitVec 8) (ix3 i h d) = V m c main_v1 (ix3 (⟨t.val * 256 + i.val, by omega⟩ : Fin 16384) h d) := by
    blk_ext [iblk, idx t]
  refine e.trans ((v1_at m c _ h d).trans ?_)
  congr 2 <;> exact Fin.ext (by dsimp only; omega)

/-- The keys of a block. -/
theorem k_at (t : Fin cfg0.N) (i : Fin 256) (h : Fin 8) (d : Fin 128) :
    kblk m c t (ix3 i h d)
      = argK m c (ix4 (⟨t.val / 32, by have := point_lt t; omega⟩ : Fin 2) (⟨t.val % 32 * 256 + i.val, by omega⟩ : Fin 8192) h d) := by
  have ht := point_lt t
  have e : (iblk m c 4 t : Win.S256x8x128.Idx → BitVec 8) (ix3 i h d) = V m c main_v2 (ix3 (⟨t.val * 256 + i.val, by omega⟩ : Fin 16384) h d) := by
    blk_ext [iblk, idx t]
  unfold kblk
  refine e.trans ((v2_at m c _ h d).trans ?_)
  congr 2 <;> exact Fin.ext (by dsimp only; omega)

/-- The values of a block. -/
theorem v_at (t : Fin cfg0.N) (i : Fin 256) (h : Fin 8) (d : Fin 128) :
    vblk m c t (ix3 i h d)
      = argV m c (ix4 (⟨t.val / 32, by have := point_lt t; omega⟩ : Fin 2) (⟨t.val % 32 * 256 + i.val, by omega⟩ : Fin 8192) h d) := by
  have ht := point_lt t
  have e : (iblk m c 5 t : Win.S256x8x128.Idx → BitVec 8) (ix3 i h d) = V m c main_v3 (ix3 (⟨t.val * 256 + i.val, by omega⟩ : Fin 16384) h d) := by
    blk_ext [iblk, idx t]
  unfold vblk
  refine e.trans ((v3_at m c _ h d).trans ?_)
  congr 2 <;> exact Fin.ext (by dsimp only; omega)

/-- The queries' scales a block sees are the argument. -/
theorem qs_at (t : Fin cfg0.N) (h : Fin 56) : (iblk m c 0 t : Win.S56.Idx → EReal) (ix1 h) = argQs m c (ix1 h) := by
  refine Eq.trans ?_ (congrFun (V_main_arg1 m c) _)
  blk_ext [iblk, idx t]

/-- The keys' scales a block sees are the argument. -/
theorem ks_at (t : Fin cfg0.N) (h : Fin 8) : (iblk m c 1 t : Win.S8.Idx → EReal) (ix1 h) = argKs m c (ix1 h) := by
  refine Eq.trans ?_ (congrFun (V_main_arg3 m c) _)
  blk_ext [iblk, idx t]

/-- The values' scales a block sees are the argument. -/
theorem vs_at (t : Fin cfg0.N) (h : Fin 8) (d : Fin 128) : (iblk m c 6 t : Win.S8x128.Idx → EReal) (ix2 h d) = argVs m c (ix2 h d) := by
  refine Eq.trans ?_ (congrFun (V_main_arg5 m c) _)
  blk_ext [iblk, idx t]

/-- The weights' scale a block sees is the argument. -/
theorem ps_at (t : Fin cfg0.N) (h : Fin 1) : (iblk m c 2 t : Win.S1.Idx → EReal) (ix1 h) = argPs m c ix0 := by
  refine Eq.trans ?_ (v0_at m c h)
  blk_ext [iblk, idx t]

/-- The result of a block, element by element. -/
theorem block_at (t : Fin cfg0.N) (i : Fin 256) (col : Fin 7168) :
    (outT (inp m c t) (ix2 i col) : EReal)
      = result (argQ m c) (argQs m c) (argK m c) (argKs m c) (argV m c) (argVs m c) (argPs m c ix0)
          (⟨t.val / 32, by have := point_lt t; omega⟩ : Fin 2) (⟨t.val % 32 * 256 + i.val, by omega⟩ : Fin 8192) col := by
  have ht := point_lt t
  have hi := i.isLt
  have e := outT_elem (inp m c t) i col
  simp only [← ix1_eq_valueIdx, ← ix2_eq_valueIdx] at e
  refine e.trans ?_
  have e1 : (inp m c t).qs (ix1 (⟨col.val / 128, by omega⟩ : Fin 56)) = argQs m c (ix1 (⟨col.val / 128, by omega⟩ : Fin 56)) := qs_at m c t _
  have e2 : (inp m c t).ks (ix1 (⟨col.val / 896, by omega⟩ : Fin 8)) = argKs m c (ix1 (⟨col.val / 896, by omega⟩ : Fin 8)) := ks_at m c t _
  have e3 : (inp m c t).ps (ix1 (0 : Fin 1)) = argPs m c ix0 := ps_at m c t _
  have e4 : (inp m c t).vs (ix2 (⟨col.val / 896, by omega⟩ : Fin 8) (⟨col.val % 128, by omega⟩ : Fin 128))
      = argVs m c (ix2 (⟨col.val / 896, by omega⟩ : Fin 8) (⟨col.val % 128, by omega⟩ : Fin 128)) := vs_at m c t _ _
  rw [e1, e2, e3, e4]
  unfold result
  have p1 : (t.val % 32 * 256 + i.val) % 128 = i.val % 128 := by omega
  have p2 : (t.val % 32 * 256 + i.val) / 128 = 2 * (t.val % 32) + i.val / 128 := by omega
  dsimp only
  rw [p1, p2]
  have prior (h : t.val % 32 ≠ 0) : (before t).val / 32 = t.val / 32 ∧ (before t).val % 32 = t.val % 32 - 1 := by
    unfold before; dsimp only; omega
  refine attn_congr _ _ _ _ _ (Nat.mod_lt _ (by decide)) (fun d hd => ?_) (fun j hj d hd => ?_) (fun j hj d hd => ?_)
  · unfold query queryCode
    rw [dif_pos hd, code3_of (inp m c t).q (by omega : i.val / 128 * 128 + 64 * (i.val / 64 % 2) + i.val % 64 < 256)
      (by omega : col.val / 128 < 56) hd]
    refine (q_at m c t _ _ _).trans ?_
    congr 2
    exact Fin.ext (by dsimp only; omega)
  · refine keys_eq (argK m c) (kblk m c t) (kblk m c (before t)) (⟨t.val / 32, by omega⟩ : Fin 2) (Nat.mod_lt _ (by decide))
      (fun x g d => k_at m c t x g d) (fun h x g d => (k_at m c (before t) x g d).trans ?_) (n := i.val / 128) (by omega) (⟨col.val / 896, by omega⟩ : Fin 8) hj hd
    congr 2 <;> refine Fin.ext ?_ <;> have := prior h <;> dsimp only <;> omega
  · refine keys_eq (argV m c) (vblk m c t) (vblk m c (before t)) (⟨t.val / 32, by omega⟩ : Fin 2) (Nat.mod_lt _ (by decide))
      (fun x g d => v_at m c t x g d) (fun h x g d => (v_at m c (before t) x g d).trans ?_) (n := i.val / 128) (by omega) (⟨col.val / 896, by omega⟩ : Fin 8) hj hd
    congr 2 <;> refine Fin.ext ?_ <;> have := prior h <;> dsimp only <;> omega

/-- The result's array after the grid, element by element. -/
theorem array_eq : (dats m 0 c).arrAt 7 cfg0.N = fun j : S16384x7168.Idx =>
    (result (argQ m c) (argQs m c) (argK m c) (argKs m c) (argV m c) (argVs m c) (argPs m c ix0)
      (⟨(j 0).val / 8192, by have : (j 0).val < 16384 := (j 0).isLt; omega⟩ : Fin 2) (⟨(j 0).val % 8192, by omega⟩ : Fin 8192) (j 1) : EReal) := by
  refine (dats m 0 c).arrAt_eq_of_covers 7 _ (by decide +kernel) fun t hf y => ?_
  blk_simp; rw [after0_7]
  have ht := point_lt t
  have e0 : win0_7.index t 0 = t.val := by rw [(idx t).2.2.2.2.2.2.2]; rfl
  have e1 : win0_7.index t 1 = 0 := by rw [(idx t).2.2.2.2.2.2.2]; rfl
  have hy : (y 0).val < 256 := (y 0).isLt
  refine (congrArg (outT (inp m c t)) (eq_ix2 (n0 := 256) (n1 := 7168) y)).trans ((block_at m c t (y 0) (y 1)).trans ?_)
  congr 1
  · exact Fin.ext (by dsimp only; rw [e0]; omega)
  · exact Fin.ext (by dsimp only; rw [e0]; omega)
  · refine Fin.ext ?_
    blk_simp
    rw [e1]
    omega

/-- The result as the program returns it. -/
theorem result_at (b : Fin 2) (s : Fin 8192) (col : Fin 7168) :
    Pipeline.afterTail₀ cfgs (dats m) 0 (V0 m) [hostOps1] c main_v5 (ix3 b s col)
      = result (argQ m c) (argQs m c) (argK m c) (argKs m c) (argV m c) (argVs m c) (argPs m c ix0) b s col := by
  have e (W : Valuation τ sig (Elt Ideal)) : StableHlo.after hostOps1 W (Proc.devRef .tc main_v5) (ix3 b s col)
      = W (Proc.devRef .tc main_v4) (ix2 (⟨b.val * 8192 + s.val, by omega⟩ : Fin 16384) col) := by
    after_reads_at
  unfold Pipeline.afterTail₀
  rw [List.flatten_cons, List.flatten_nil, List.append_nil]
  refine (e _).trans ?_
  refine (congrFun (Pipeline.withArrays_arr spec0 launch0.win.arr_inj c _ _ 7) _).trans ?_
  refine (congrFun (array_eq m c) _).trans ?_
  have i1 : (⟨(b.val * 8192 + s.val) / 8192, by omega⟩ : Fin 2) = b := Fin.ext (by dsimp only; omega)
  have i2 : (⟨(b.val * 8192 + s.val) % 8192, by omega⟩ : Fin 8192) = s := Fin.ext (by dsimp only; omega)
  exact congrArg₂ (fun x y => result (argQ m c) (argQs m c) (argK m c) (argKs m c) (argV m c) (argVs m c) (argPs m c ix0) x y col) i1 i2

/-- Every fair execution ends with the attention in the result and the arguments unchanged. -/
theorem leaves : θ_run defs (onTc (τ := τ) (main (F := Ideal))) ⟨m, fun _ => 0, ρ⟩ (fun r => ∀ c : Dev nD,
      r.2.mem ((c.tc : Thread nD τ).loc main_v5) = (fun j : S2x8192x7168.Idx =>
        (result (argQ m c) (argQs m c) (argK m c) (argKs m c) (argV m c) (argVs m c) (argPs m c ix0) (j 0) (j 1) (j 2) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, h.2 c⟩) (θ_run_and (run_main m ρ) (unchanged m ρ))
  refine ((h.1 c).2 main_v5 (Pipeline.mem_restRefs_of main_v5 (by decide) (by decide))).trans ?_
  funext j
  rw [eq_ix3 j]
  exact result_at m c (j 0) (j 1) (j 2)

end Cert.KernelIdeal.Val

end
-- ==== Proof.ReferenceRead.lean ====
/-
  What the reference's buffers hold, element by element.

  Each theorem reads one buffer at an index through one stretch of the reference's operations.
-/
module

public import proofs.«01_k».proof.Proof.Gen.ReferenceIdeal.Frame
public import proofs.«01_k».proof.Proof.Attn
public import Idealize.ShloMosaic.Lib.Pipeline.ValueKit
public import Idealize.ShloMosaic.Lib.StableHlo.ReadAt
public import Idealize.ShloMosaic.Lib.WordCmp

@[expose] public section

set_option maxRecDepth 16384

noncomputable section

namespace Cert.ReferenceIdeal.Val

open Idealize.ShloMosaic Idealize.ShloMosaic.TcCoe Idealize.SL Idealize.SL.Sem
open Cert.ReferenceIdeal.Gen Win

/-- An array of one element has one index. -/
theorem first_eq : (Shape.Idx.first h_S_ : S_.Idx) = ix0 := funext fun x => x.elim0

/-- The product of two numbers. -/
abbrev mulE (x y : EReal) : EReal := x * y
/-- The clipped number. -/
abbrev clipE (hi lo x : EReal) : EReal := min hi (max lo x)

section Stretches

variable (V : Valuation τ sig (Elt Ideal))

/-- The queries by block. -/
theorem v1_at (b : Fin 2) (n : Fin 64) (a : Fin 128) (g : Fin 8) (r : Fin 7) (d : Fin 128) :
    StableHlo.after hostOps1 V (Proc.devRef .tc main_v1) (ix6 b n a g r d)
      = V (Proc.devRef .tc main_v0_0) (ix4 b (⟨n.val * 128 + a.val, by omega⟩ : Fin 8192) (⟨g.val * 7 + r.val, by omega⟩ : Fin 56) d) := by
  after_reads_at

/-- The keys by block. -/
theorem v2_at (b : Fin 2) (n : Fin 64) (a : Fin 128) (g : Fin 8) (d : Fin 128) :
    StableHlo.after hostOps1 V (Proc.devRef .tc main_v2) (ix5 b n a g d)
      = V (Proc.devRef .tc main_v0_1) (ix4 b (⟨n.val * 128 + a.val, by omega⟩ : Fin 8192) g d) := by
  after_reads_at

/-- The values by block. -/
theorem v3_at (b : Fin 2) (n : Fin 64) (a : Fin 128) (g : Fin 8) (d : Fin 128) :
    StableHlo.after hostOps1 V (Proc.devRef .tc main_v3) (ix5 b n a g d)
      = V (Proc.devRef .tc main_v0_2) (ix4 b (⟨n.val * 128 + a.val, by omega⟩ : Fin 8192) g d) := by
  after_reads_at

/-- The keys of all blocks but the last. -/
theorem v4_at (b : Fin 2) (n : Fin 63) (a : Fin 128) (g : Fin 8) (d : Fin 128) :
    StableHlo.after hostOps1 V (Proc.devRef .tc main_v4) (ix5 b n a g d)
      = V (Proc.devRef .tc main_v0_1) (ix4 b (⟨n.val * 128 + a.val, by omega⟩ : Fin 8192) g d) := by
  after_reads_at

/-- The number that pads the keys. -/
theorem c_at : StableHlo.after hostOps1 V (Proc.devRef .tc main_c) ix0 = (0#32 : BitVec 32) := by
  after_reads_at

/-- The keys of the block before. -/
theorem v5_at (b : Fin 2) (n : Fin 64) (a : Fin 128) (g : Fin 8) (d : Fin 128) :
    StableHlo.after hostOps1_1 V (Proc.devRef .tc main_v5) (ix5 b n a g d)
      = if h : 1 ≤ n.val ∧ n.val - 1 < 63 then V (Proc.devRef .tc main_v4) (ix5 b (⟨n.val - 1, h.2⟩ : Fin 63) a g d)
        else (FloatOps.sitofp (F := Ideal) .f32 (V (Proc.devRef .tc main_c) ix0 : BitVec 32) : EReal) := by
  after_reads_at
  rw [first_eq]

/-- The keys of both blocks. -/
theorem v6_at (b : Fin 2) (n : Fin 64) (k : Fin 256) (g : Fin 8) (d : Fin 128) :
    StableHlo.after hostOps1_2 V (Proc.devRef .tc main_v6) (ix5 b n k g d)
      = if h : k.val < 128 then V (Proc.devRef .tc main_v5) (ix5 b n (⟨k.val, h⟩ : Fin 128) g d)
        else V (Proc.devRef .tc main_v2) (ix5 b n (⟨k.val - 128, by omega⟩ : Fin 128) g d) := by
  after_reads_at

/-- The values of all blocks but the last. -/
theorem v7_at (b : Fin 2) (n : Fin 63) (a : Fin 128) (g : Fin 8) (d : Fin 128) :
    StableHlo.after hostOps1_2 V (Proc.devRef .tc main_v7) (ix5 b n a g d)
      = V (Proc.devRef .tc main_v3) (ix5 b (⟨n.val, by omega⟩ : Fin 64) a g d) := by
  after_reads_at

/-- The number that pads the values. -/
theorem c0_at : StableHlo.after hostOps1_2 V (Proc.devRef .tc main_c_0) ix0 = (0#32 : BitVec 32) := by
  after_reads_at

/-- The values of the block before. -/
theorem v8_at (b : Fin 2) (n : Fin 64) (a : Fin 128) (g : Fin 8) (d : Fin 128) :
    StableHlo.after hostOps1_3 V (Proc.devRef .tc main_v8) (ix5 b n a g d)
      = if h : 1 ≤ n.val ∧ n.val - 1 < 63 then V (Proc.devRef .tc main_v7) (ix5 b (⟨n.val - 1, h.2⟩ : Fin 63) a g d)
        else (FloatOps.sitofp (F := Ideal) .f32 (V (Proc.devRef .tc main_c_0) ix0 : BitVec 32) : EReal) := by
  after_reads_at
  rw [first_eq]

/-- The values of both blocks. -/
theorem v9_at (b : Fin 2) (n : Fin 64) (k : Fin 256) (g : Fin 8) (d : Fin 128) :
    StableHlo.after hostOps1_4 V (Proc.devRef .tc main_v9) (ix5 b n k g d)
      = if h : k.val < 128 then V (Proc.devRef .tc main_v8) (ix5 b n (⟨k.val, h⟩ : Fin 128) g d)
        else V (Proc.devRef .tc main_v3) (ix5 b n (⟨k.val - 128, by omega⟩ : Fin 128) g d) := by
  after_reads_at

/-- The mask. -/
theorem v53_at (n : Fin 64) (a : Fin 128) (k : Fin 256) :
    StableHlo.after hostOps1_4 V (Proc.devRef .tc main_v53) (ix6 0 n 0 0 a k)
      = BitVec.ofBool (decide ((a.val < k.val ∧ k.val ≤ a.val + 128) ∧ 128 ≤ n.val * 128 + k.val)) := by
  after_reads_at
  have hn := n.isLt
  have ha := a.isLt
  have hk := k.isLt
  rw [WordCmp.andi_sge_zero_slt_ofNat (w := 32) (k := 128) (by decide), WordCmp.cmpi_sge_zero, WordCmp.andi_ofBool, ← Bool.decide_and]
  congr 1
  refine decide_eq_decide.mpr ?_
  show (BitVec.ofNat 32 a.val + 128#32 - BitVec.ofNat 32 k.val).toNat < 128
    ∧ ((BitVec.ofNat 32 n.val - 1#32) * 128#32 + BitVec.ofNat 32 k.val).toNat < 2 ^ 31 ↔ _
  simp only [BitVec.toNat_add, BitVec.toNat_sub, BitVec.toNat_mul, BitVec.toNat_ofNat]
  omega

/-- The logistic of the scaled scores. -/
theorem v59_at (b : Fin 2) (n : Fin 64) (g : Fin 8) (r : Fin 7) (a : Fin 128) (k : Fin 256) :
    StableHlo.after hostOps1_4 V (Proc.devRef .tc main_v59) (ix6 b n g r a k)
      = Ideal.logistic (mulE (∑ x : Fin 128, mulE (V (Proc.devRef .tc main_v6) (ix5 b n k g x)) (V (Proc.devRef .tc main_v1) (ix6 b n a g r x)))
          (mulE (mulE (V (Proc.devRef .tc main_arg1) (ix1 (⟨g.val * 7 + r.val, by omega⟩ : Fin 56))) (V (Proc.devRef .tc main_arg3) (ix1 g)))
            (Ideal.ofBits .f32 0x3DB504F3#32)) + Ideal.ofBits .f32 0xC09B43D5#32) := by
  after_reads_at
  rfl

/-- The number for unseen keys. -/
theorem cst10_at : StableHlo.after hostOps1_4 V (Proc.devRef .tc main_cst_10) ix0 = (0 : EReal) := by
  after_reads_at

/-- The weights, zero where unseen. -/
theorem v60_at (b : Fin 2) (n : Fin 64) (g : Fin 8) (r : Fin 7) (a : Fin 128) (k : Fin 256) :
    StableHlo.after hostOps1_5 V (Proc.devRef .tc main_v60) (ix6 b n g r a k)
      = Scalar.select (V (Proc.devRef .tc main_v53) (ix6 0 n 0 0 a k)) (V (Proc.devRef .tc main_v59) (ix6 b n g r a k) : EReal)
        (V (Proc.devRef .tc main_cst_10) ix0) := by
  after_reads_at
  rfl

/-- The weights over their scale. -/
theorem v63_at (b : Fin 2) (n : Fin 64) (g : Fin 8) (r : Fin 7) (a : Fin 128) (k : Fin 256) :
    StableHlo.after hostOps1_6 V (Proc.devRef .tc main_v63) (ix6 b n g r a k)
      = mulE (V (Proc.devRef .tc main_v60) (ix6 b n g r a k)) (Ideal.div 1 (V (Proc.devRef .tc main_arg6) ix0)) := by
  after_reads_at

/-- The least weight. -/
theorem cst12_at : StableHlo.after hostOps1_6 V (Proc.devRef .tc main_cst_12) ix0 = (0 : EReal) := by
  after_reads_at

/-- The greatest weight. -/
theorem cst13_at : StableHlo.after hostOps1_6 V (Proc.devRef .tc main_cst_13) ix0 = (Ideal.ofBits .f32 0x43E00000#32 : EReal) := by
  after_reads_at

/-- The clipped weights. -/
theorem v64_at (b : Fin 2) (n : Fin 64) (g : Fin 8) (r : Fin 7) (a : Fin 128) (k : Fin 256) :
    StableHlo.after hostOps1_7 V (Proc.devRef .tc main_v64) (ix6 b n g r a k)
      = clipE (V (Proc.devRef .tc main_cst_13) ix0) (V (Proc.devRef .tc main_cst_12) ix0) (V (Proc.devRef .tc main_v63) (ix6 b n g r a k)) := by
  after_reads_at
  rfl

/-- The result. -/
theorem v75_at (b : Fin 2) (s : Fin 8192) (col : Fin 7168) :
    StableHlo.after hostOps2 V (Proc.devRef .tc main_v75) (ix3 b s col)
      = mulE (∑ x : Fin 256, mulE (V (Proc.devRef .tc main_v9) (ix5 b (⟨s.val / 128, by omega⟩ : Fin 64) x (⟨col.val / 896, by omega⟩ : Fin 8) (⟨col.val % 128, by omega⟩ : Fin 128)))
          (V (Proc.devRef .tc main_v65) (ix6 b (⟨s.val / 128, by omega⟩ : Fin 64) (⟨col.val / 896, by omega⟩ : Fin 8) (⟨col.val / 128 % 7, by omega⟩ : Fin 7) (⟨s.val % 128, by omega⟩ : Fin 128) x)))
        (mulE (V (Proc.devRef .tc main_arg6) ix0) (V (Proc.devRef .tc main_arg5) (ix2 (⟨col.val / 896, by omega⟩ : Fin 8) (⟨col.val % 128, by omega⟩ : Fin 128)))) := by
  after_reads_at

end Stretches

end Cert.ReferenceIdeal.Val

end
-- ==== Proof.ReferenceRegion.lean ====
/-
  What the reference's two small kernels leave: the numbers of the codes, and the weights as they were.
-/
module

public import proofs.«01_k».proof.Proof.Gen.ReferenceIdeal.Frame
public import proofs.«01_k».proof.Proof.Attn
public import Idealize.ShloMosaic.Lib.Pipeline.ValueKit
public import Idealize.ShloMosaic.Lib.StableHlo.ReadAt
public import Idealize.ShloMosaic.Lib.WordCmp

@[expose] public section

set_option maxRecDepth 16384

noncomputable section

namespace Cert.ReferenceIdeal.Val

open Idealize.ShloMosaic Idealize.ShloMosaic.TcCoe Idealize.SL Idealize.SL.Sem
open Cert.ReferenceIdeal.Gen Win

section Regions

variable (V : (c : Dev nD) → (b : Ref sig .tc) → Buf (Elt Ideal) ((c : Thread nD τ).loc b))

/-- The queries' numbers. -/
theorem decode_q (c : Dev nD) : (dat0 V c).arrAt 3 cfg0.N = fun j : S2x8192x56x128.Idx => (dec (V c main_arg0 j) : EReal) := by
  refine (dat0 V c).arrAt_eq_of_covers 3 _ (by decide +kernel) fun t hf y => ?_
  blk_simp; rw [after0_3]; frame_out
  unfold k0_pay1
  show dec _ = dec _
  congr 1
  blk_ext [iblk0]

/-- The keys' numbers. -/
theorem decode_k (c : Dev nD) : (dat0 V c).arrAt 4 cfg0.N = fun j : S2x8192x8x128.Idx => (dec (V c main_arg2 j) : EReal) := by
  refine (dat0 V c).arrAt_eq_of_covers 4 _ (by decide +kernel) fun t hf y => ?_
  blk_simp; rw [after0_4]; frame_out
  unfold k0_pay2
  show dec _ = dec _
  congr 1
  blk_ext [iblk0]

/-- The values' numbers. -/
theorem decode_v (c : Dev nD) : (dat0 V c).arrAt 5 cfg0.N = fun j : S2x8192x8x128.Idx => (dec (V c main_arg4 j) : EReal) := by
  refine (dat0 V c).arrAt_eq_of_covers 5 _ (by decide +kernel) fun t hf y => ?_
  blk_simp; rw [after0_5]; frame_out
  unfold k0_pay3
  show dec _ = dec _
  congr 1
  blk_ext [iblk0]

/-- Rounding to codes and back keeps the numbers. -/
theorem k1_pay1_eq (x : S2x64x8x7x128x256.Idx → EReal) : k1_pay1 (F := Ideal) x = x := by
  unfold k1_pay1
  rw [shapeCast_self]
  rfl

/-- The rounded weights. -/
theorem round_w (c : Dev nD) : (dat1 V c).arrAt 1 cfg1.N = V c main_v64 := by
  refine (dat1 V c).arrAt_eq_of_covers 1 _ (by decide +kernel) fun t hf y => ?_
  blk_simp; rw [after1_1]; frame_out
  rw [k1_pay1_eq]
  unfold iblk1
  refine congrArg (V c main_v64) (?_ : ((cfg1.win 0).blk t).view.emb y = ((cfg1.win 1).blk t).view.emb y)
  funext a
  apply Fin.ext
  blk_simp
  rfl

end Regions

end Cert.ReferenceIdeal.Val

end
-- ==== Proof.ReferenceValue.lean ====
/-
  The reference's result, element by element: the attention over the seen keys.
-/
module

public import proofs.«01_k».proof.Proof.ReferenceRead
public import proofs.«01_k».proof.Proof.ReferenceRegion

@[expose] public section

set_option maxRecDepth 16384

noncomputable section

namespace Cert.ReferenceIdeal.Val

open Idealize.ShloMosaic Idealize.ShloMosaic.TcCoe Idealize.SL Idealize.SL.Sem
open Cert.ReferenceIdeal.Gen Win

variable (m : (ℓ : Loc nD τ sig) → Buf (Elt Ideal) ℓ) (ρ : Dev nD → PrngReg) (c : Dev nD)

/-- The queries. -/
abbrev argQ : S2x8192x56x128.Idx → BitVec 8 := m ((c : Thread nD τ).loc main_arg0)
/-- The queries' scales. -/
abbrev argQs : S56.Idx → EReal := m ((c : Thread nD τ).loc main_arg1)
/-- The keys. -/
abbrev argK : S2x8192x8x128.Idx → BitVec 8 := m ((c : Thread nD τ).loc main_arg2)
/-- The keys' scales. -/
abbrev argKs : S8.Idx → EReal := m ((c : Thread nD τ).loc main_arg3)
/-- The values. -/
abbrev argV : S2x8192x8x128.Idx → BitVec 8 := m ((c : Thread nD τ).loc main_arg4)
/-- The values' scales. -/
abbrev argVs : S8x128.Idx → EReal := m ((c : Thread nD τ).loc main_arg5)
/-- The weights' scale. -/
abbrev argPs : S_.Idx → EReal := m ((c : Thread nD τ).loc main_arg6)

/-- The padding number is zero. -/
theorem sitofp_zero : (FloatOps.sitofp (F := Ideal) .f32 (0#32 : BitVec 32) : EReal) = 0 := by
  show (((0#32 : BitVec 32).toInt : ℝ) : EReal) = 0
  norm_num

/-- The queries' numbers after the first kernel. -/
theorem w1_q (j : S2x8192x56x128.Idx) : W1 m ρ c (Proc.devRef .tc main_v0_0) j = dec (argQ m c j) :=
  congrFun ((W1_arr m ρ c 3).trans (decode_q (V0 m ρ) c)) j

/-- The keys' numbers after the first kernel. -/
theorem w1_k (j : S2x8192x8x128.Idx) : W1 m ρ c (Proc.devRef .tc main_v0_1) j = dec (argK m c j) :=
  congrFun ((W1_arr m ρ c 4).trans (decode_k (V0 m ρ) c)) j

/-- The values' numbers after the first kernel. -/
theorem w1_v (j : S2x8192x8x128.Idx) : W1 m ρ c (Proc.devRef .tc main_v0_2) j = dec (argV m c j) :=
  congrFun ((W1_arr m ρ c 5).trans (decode_v (V0 m ρ) c)) j

/-- The queries by block. -/
theorem w2_q (b : Fin 2) (n : Fin 64) (a : Fin 128) (g : Fin 8) (r : Fin 7) (d : Fin 128) :
    W2 m ρ c (Proc.devRef .tc main_v1) (ix6 b n a g r d)
      = dec (argQ m c (ix4 b (⟨n.val * 128 + a.val, by omega⟩ : Fin 8192) (⟨g.val * 7 + r.val, by omega⟩ : Fin 56) d)) :=
  (v1_at (W1 m ρ c) b n a g r d).trans (w1_q m ρ c _)

/-- The keys each block sees. -/
theorem w4_k (b : Fin 2) (n : Fin 64) (k : Fin 256) (g : Fin 8) (d : Fin 128) :
    W4 m ρ c (Proc.devRef .tc main_v6) (ix5 b n k g d) = dec (seqCode (argK m c) b g n.val k.val d.val) := by
  refine (v6_at (W3 m ρ c) b n k g d).trans ?_
  have hd := d.isLt
  have hn := n.isLt
  unfold seqCode
  split
  · rename_i h
    refine (v5_at (W2 m ρ c) b n _ g d).trans ?_
    split
    · rename_i h'
      refine (v4_at (W1 m ρ c) b _ _ g d).trans ((w1_k m ρ c _).trans ?_)
      rw [dif_pos (by omega)]
      congr 4
      dsimp only
      omega
    · rename_i h'
      rw [dif_neg (by omega)]
      refine Eq.trans ?_ dec_zero.symm
      refine Eq.trans ?_ sitofp_zero
      exact congrArg (fun x : BitVec 32 => (FloatOps.sitofp (F := Ideal) .f32 x : EReal)) (c_at (W1 m ρ c))
  · rename_i h
    refine (congrFun (W3_of m ρ c main_v2 (by decide)) _).trans ?_
    refine (v2_at (W1 m ρ c) b n _ g d).trans ((w1_k m ρ c _).trans ?_)
    rw [dif_pos (by omega)]
    congr 4
    dsimp only
    omega

/-- The values each block sees. -/
theorem w6_v (b : Fin 2) (n : Fin 64) (k : Fin 256) (g : Fin 8) (d : Fin 128) :
    W6 m ρ c (Proc.devRef .tc main_v9) (ix5 b n k g d) = dec (seqCode (argV m c) b g n.val k.val d.val) := by
  refine (v9_at (W5 m ρ c) b n k g d).trans ?_
  have hd := d.isLt
  have hn := n.isLt
  have e3 (j : S2x64x128x8x128.Idx) : W3 m ρ c (Proc.devRef .tc main_v3) j = W2 m ρ c (Proc.devRef .tc main_v3) j :=
    congrFun (W3_of m ρ c main_v3 (by decide)) j
  unfold seqCode
  split
  · rename_i h
    refine (v8_at (W4 m ρ c) b n _ g d).trans ?_
    split
    · rename_i h'
      refine (v7_at (W3 m ρ c) b _ _ g d).trans ((e3 _).trans ?_)
      refine (v3_at (W1 m ρ c) b _ _ g d).trans ((w1_v m ρ c _).trans ?_)
      rw [dif_pos (by omega)]
      congr 4
      dsimp only
      omega
    · rename_i h'
      rw [dif_neg (by omega)]
      refine Eq.trans ?_ dec_zero.symm
      refine Eq.trans ?_ sitofp_zero
      exact congrArg (fun x : BitVec 32 => (FloatOps.sitofp (F := Ideal) .f32 x : EReal)) (c0_at (W3 m ρ c))
  · rename_i h
    refine (congrFun (W5_of m ρ c main_v3 (by decide)) _).trans ?_
    refine (congrFun (W4_of m ρ c main_v3 (by decide)) _).trans ((e3 _).trans ?_)
    refine (v3_at (W1 m ρ c) b n _ g d).trans ((w1_v m ρ c _).trans ?_)
    rw [dif_pos (by omega)]
    congr 4
    dsimp only
    omega

/-- The weights' logistic, from the codes. -/
theorem w6_p (b : Fin 2) (n : Fin 64) (g : Fin 8) (r : Fin 7) (a : Fin 128) (k : Fin 256) :
    W6 m ρ c (Proc.devRef .tc main_v59) (ix6 b n g r a k)
      = Ideal.logistic (mulE (dotQK (queryCode (argQ m c) b (⟨n.val * 128 + a.val, by omega⟩ : Fin 8192) (⟨g.val * 7 + r.val, by omega⟩ : Fin 56))
            (seqCode (argK m c) b g n.val k.val))
          (mulE (mulE (argQs m c (ix1 (⟨g.val * 7 + r.val, by omega⟩ : Fin 56))) (argKs m c (ix1 g)))
            (Ideal.ofBits .f32 0x3DB504F3#32)) + Ideal.ofBits .f32 0xC09B43D5#32) := by
  refine (v59_at (W5 m ρ c) b n g r a k).trans ?_
  have e1 : W5 m ρ c (Proc.devRef .tc main_arg1) = m ((c : Thread nD τ).loc main_arg1) := W5_args m ρ c _ (by decide)
  have e3 : W5 m ρ c (Proc.devRef .tc main_arg3) = m ((c : Thread nD τ).loc main_arg3) := W5_args m ρ c _ (by decide)
  have e6 : W5 m ρ c (Proc.devRef .tc main_v6) = W4 m ρ c (Proc.devRef .tc main_v6) := W5_of m ρ c _ (by decide)
  have eq : W5 m ρ c (Proc.devRef .tc main_v1) = W2 m ρ c (Proc.devRef .tc main_v1) :=
    (W5_of m ρ c _ (by decide)).trans ((W4_of m ρ c _ (by decide)).trans (W3_of m ρ c _ (by decide)))
  rw [e1, e3, e6, eq]
  refine congrArg (fun s : EReal => Ideal.logistic (mulE s (mulE (mulE (argQs m c (ix1 (⟨g.val * 7 + r.val, by omega⟩ : Fin 56))) (argKs m c (ix1 g)))
            (Ideal.ofBits .f32 0x3DB504F3#32)) + Ideal.ofBits .f32 0xC09B43D5#32)) ?_
  unfold dotQK
  refine Finset.sum_congr rfl fun d _ => ?_
  have hq : queryCode (argQ m c) b (⟨n.val * 128 + a.val, by omega⟩ : Fin 8192) (⟨g.val * 7 + r.val, by omega⟩ : Fin 56) d.val
      = argQ m c (ix4 b (⟨n.val * 128 + a.val, by omega⟩ : Fin 8192) (⟨g.val * 7 + r.val, by omega⟩ : Fin 56) d) := dif_pos d.isLt
  rw [hq]
  exact (congrArg₂ (fun x y : EReal => mulE x y) (w4_k m ρ c b n k g d) (w2_q m ρ c b n a g r d)).trans (mul_comm _ _)

/-- The clip bound is not negative. -/
theorem clip_zero : clipE (Ideal.ofBits .f32 0x43E00000#32) 0 0 = 0 := by
  have h : (0 : EReal) ≤ Ideal.ofBits .f32 0x43E00000#32 := by
    rw [show Ideal.ofBits .f32 0x43E00000#32 = ((448 : ℝ) : EReal) by
      simp [Ideal.ofBits, Ideal.ieee, -EReal.coe_mul]; norm_num]
    exact EReal.coe_nonneg.mpr (by norm_num)
  show min _ (max 0 0) = (0 : EReal)
  rw [max_self]
  exact min_eq_right h

/-- The weights. -/
theorem w10_p (b : Fin 2) (n : Fin 64) (g : Fin 8) (r : Fin 7) (a : Fin 128) (k : Fin 256) :
    W10 m ρ c (Proc.devRef .tc main_v65) (ix6 b n g r a k)
      = if (a.val < k.val ∧ k.val ≤ a.val + 128) ∧ 128 ≤ n.val * 128 + k.val then
          wt (argQs m c (ix1 (⟨g.val * 7 + r.val, by omega⟩ : Fin 56))) (argKs m c (ix1 g)) (argPs m c ix0)
            (dotQK (queryCode (argQ m c) b (⟨n.val * 128 + a.val, by omega⟩ : Fin 8192) (⟨g.val * 7 + r.val, by omega⟩ : Fin 56))
              (seqCode (argK m c) b g n.val k.val))
        else (0 : EReal) := by
  refine (congrFun ((W10_arr m ρ c 1).trans (round_w (V9 m ρ) c)) (ix6 b n g r a k)).trans ?_
  refine (v64_at (W8 m ρ c) b n g r a k).trans ?_
  have e1 : W8 m ρ c (Proc.devRef .tc main_cst_13) ix0 = (Ideal.ofBits .f32 0x43E00000#32 : EReal) := cst13_at (W7 m ρ c)
  have e2 : W8 m ρ c (Proc.devRef .tc main_cst_12) ix0 = (0 : EReal) := cst12_at (W7 m ρ c)
  have e3 := v63_at (W7 m ρ c) b n g r a k
  have e4 := v60_at (W6 m ρ c) b n g r a k
  have e5 : W6 m ρ c (Proc.devRef .tc main_cst_10) ix0 = (0 : EReal) := cst10_at (W5 m ρ c)
  have e6 := v53_at (W5 m ρ c) n a k
  have e7 := w6_p m ρ c b n g r a k
  have e8 : W7 m ρ c (Proc.devRef .tc main_arg6) = m ((c : Thread nD τ).loc main_arg6) := W7_args m ρ c _ (by decide)
  rw [e1, e2]
  change W8 m ρ c (Proc.devRef .tc main_v63) (ix6 b n g r a k) = _ at e3
  change W7 m ρ c (Proc.devRef .tc main_v60) (ix6 b n g r a k) = _ at e4
  change W6 m ρ c (Proc.devRef .tc main_v53) (ix6 0 n 0 0 a k) = _ at e6
  rw [e3, e4, e5, e8]
  rw [e6, e7]
  unfold wt
  by_cases h : (a.val < k.val ∧ k.val ≤ a.val + 128) ∧ 128 ≤ n.val * 128 + k.val
  · rw [if_pos h, decide_eq_true h]
    rfl
  · rw [if_neg h, decide_eq_false h]
    show clipE _ 0 (mulE 0 _) = _
    rw [show mulE 0 (Ideal.div 1 (argPs m c ix0)) = 0 from zero_mul _]
    exact clip_zero

/-- The result's buffer, element by element. -/
theorem w11_at (b : Fin 2) (s : Fin 8192) (col : Fin 7168) :
    W11 m ρ c (Proc.devRef .tc main_v75) (ix3 b s col)
      = result (argQ m c) (argQs m c) (argK m c) (argKs m c) (argV m c) (argVs m c) (argPs m c ix0) b s col := by
  refine (v75_at (W10 m ρ c) b s col).trans ?_
  have e5 : W10 m ρ c (Proc.devRef .tc main_arg5) = m ((c : Thread nD τ).loc main_arg5) := W10_args m ρ c _ (by decide)
  have e6 : W10 m ρ c (Proc.devRef .tc main_arg6) = m ((c : Thread nD τ).loc main_arg6) := W10_args m ρ c _ (by decide)
  have e9 : W10 m ρ c (Proc.devRef .tc main_v9) = W6 m ρ c (Proc.devRef .tc main_v9) :=
    (W10_of_ne m ρ c _ (by decide)).trans ((W9_of m ρ c _ (by decide)).trans ((W8_of m ρ c _ (by decide)).trans (W7_of m ρ c _ (by decide))))
  rw [e5, e6, e9]
  unfold result attn
  refine congrArg (fun x : EReal => mulE x (mulE (argPs m c ix0) (argVs m c (ix2 (⟨col.val / 896, by omega⟩ : Fin 8) (⟨col.val % 128, by omega⟩ : Fin 128))))) ?_
  refine Finset.sum_congr rfl fun j _ => ?_
  refine (congrArg₂ (fun x y : EReal => mulE x y) (w6_v m ρ c b _ j _ _) (w10_p m ρ c b _ _ _ _ j)).trans ?_
  have i1 : (⟨s.val / 128 * 128 + s.val % 128, by omega⟩ : Fin 8192) = s := Fin.ext (by dsimp only; omega)
  have i2 : (⟨col.val / 896 * 7 + col.val / 128 % 7, by omega⟩ : Fin 56) = ⟨col.val / 128, by omega⟩ := Fin.ext (by dsimp only; omega)
  dsimp only
  rw [i1, i2]
  by_cases h : s.val % 128 < j.val ∧ j.val ≤ s.val % 128 + 128
  · by_cases h' : 128 ≤ s.val / 128 * 128 + j.val
    · rw [if_pos ⟨h, h'⟩, if_pos h]
      exact mul_comm _ _
    · rw [if_neg (fun e => h' e.2), if_pos h]
      have z : seqCode (argV m c) b (⟨col.val / 896, by omega⟩ : Fin 8) (s.val / 128) j.val (col.val % 128) = 0#8 := dif_neg (fun e => h' e.1)
      rw [z, dec_zero]
      exact (zero_mul _).trans (mul_zero _).symm
  · rw [if_neg (fun e => h e.1), if_neg h]
    exact mul_zero _

end Cert.ReferenceIdeal.Val

end
-- ==== Proof.ReferenceRun.lean ====
/-
  The reference's run: the result's buffer ends at what the operations leave in it, the arguments unchanged.
-/
module

public import proofs.«01_k».proof.Proof.Gen.ReferenceIdeal.Frame

@[expose] public section

set_option maxRecDepth 16384

noncomputable section

namespace Cert.ReferenceIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every fair execution ends with the result's buffer as the operations leave it and the arguments unchanged. -/
theorem leaves : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => fun c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.ReferenceIdeal.Val

end
-- ==== Proof.lean ====
/-
  The claims of the statement, from the runs of the three programs.
-/
module

public import proofs.«01_k».proof.Defs
public import proofs.«01_k».proof.Proof.KernelRun
public import proofs.«01_k».proof.Proof.KernelIdealRun
public import proofs.«01_k».proof.Proof.KernelIdealValue
public import proofs.«01_k».proof.Proof.Gen.ReferenceIdeal
public import proofs.«01_k».proof.Proof.Gen.ReferenceIdeal.Frame
public import proofs.«01_k».proof.Proof.ReferenceValue
public import proofs.«01_k».proof.Proof.ReferenceRun
public import Idealize.ShloMosaic.Adequacy
public import Idealize.ShloMosaic.Init

@[expose] public section

noncomputable section

namespace Cert.Proof

open Idealize.ShloMosaic Idealize.SL.Sem

/-- On the extended reals the kernel and the reference, started with the same arguments, end with the same result:
    both end with the attention over the seen keys. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => _, Cert.KernelIdeal.Val.leaves m g, ?_⟩
  refine (θ_run _ _ _).mono (fun r h c => ⟨?_, (h c).2⟩) (Cert.ReferenceIdeal.Val.leaves m' g')
  refine (h c).1.trans ?_
  funext j
  rw [eq_ix3 j]
  refine (Cert.ReferenceIdeal.Val.w11_at m' g' c (j 0) (j 1) (j 2)).trans ?_
  obtain ⟨a0, a1, a2, a3, a4, a5, a6⟩ := hagree c
  unfold Cert.ReferenceIdeal.Val.argQ Cert.ReferenceIdeal.Val.argQs Cert.ReferenceIdeal.Val.argK Cert.ReferenceIdeal.Val.argKs
    Cert.ReferenceIdeal.Val.argV Cert.ReferenceIdeal.Val.argVs Cert.ReferenceIdeal.Val.argPs
  rw [a0, a1, a2, a3, a4, a5, a6]
  rfl

/-- Everything that is claimed. -/
theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, trivial, algebraic⟩

end Cert.Proof

end
